-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48_0) = v0 c
          ∧ r.2.mem ((c.tc : Thread Cert.ReferenceIdeal.nD Cert.ReferenceIdeal.τ).loc Cert.ReferenceIdeal.main_v48_1) = v1 c
          ∧ r.2.mem ((c.tc : Thread Cert.ReferenceIdeal.nD Cert.ReferenceIdeal.τ).loc Cert.ReferenceIdeal.main_v48_2) = v2 c
          ∧ r.2.mem ((c.tc : Thread Cert.ReferenceIdeal.nD Cert.ReferenceIdeal.τ).loc Cert.ReferenceIdeal.main_v48_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x6144 : Shape := ⟨3, ![2, 768, 6144]⟩
abbrev S2x768x48 : Shape := ⟨3, ![2, 768, 48]⟩
abbrev S6144x576 : Shape := ⟨2, ![6144, 576]⟩
abbrev S48x5 : Shape := ⟨2, ![48, 5]⟩
abbrev S512 : Shape := ⟨1, ![512]⟩
abbrev S2x768 : Shape := ⟨2, ![2, 768]⟩
abbrev S2x768x512 : Shape := ⟨3, ![2, 768, 512]⟩
abbrev S2x768x64 : Shape := ⟨3, ![2, 768, 64]⟩
abbrev S1536x6144 : Shape := ⟨2, ![1536, 6144]⟩
abbrev S2x48x768 : Shape := ⟨3, ![2, 48, 768]⟩
abbrev S576x6144 : Shape := ⟨2, ![576, 6144]⟩
abbrev S5x48 : Shape := ⟨2, ![5, 48]⟩
abbrev S1x512 : Shape := ⟨2, ![1, 512]⟩
abbrev S1536x512 : Shape := ⟨2, ![1536, 512]⟩
abbrev S2x64x768 : Shape := ⟨3, ![2, 64, 768]⟩
abbrev S6x2x512 : Shape := ⟨3, ![6, 2, 512]⟩
abbrev S2x576x768 : Shape := ⟨3, ![2, 576, 768]⟩
abbrev S5x2x768 : Shape := ⟨3, ![5, 2, 768]⟩
abbrev S256x6144 : Shape := ⟨2, ![256, 6144]⟩
abbrev S1x48x256 : Shape := ⟨3, ![1, 48, 256]⟩
abbrev S256x512 : Shape := ⟨2, ![256, 512]⟩
abbrev S1x64x256 : Shape := ⟨3, ![1, 64, 256]⟩
abbrev S1x576x256 : Shape := ⟨3, ![1, 576, 256]⟩
abbrev S2x64x128 : Shape := ⟨3, ![2, 64, 128]⟩
abbrev S256x576 : Shape := ⟨2, ![256, 576]⟩
abbrev S1x1 : Shape := ⟨2, ![1, 1]⟩
abbrev S128x128 : Shape := ⟨2, ![128, 128]⟩
abbrev S64x128 : Shape := ⟨2, ![64, 128]⟩
abbrev S48x256 : Shape := ⟨2, ![48, 256]⟩
abbrev S256x48 : Shape := ⟨2, ![256, 48]⟩
abbrev S256x128 : Shape := ⟨2, ![256, 128]⟩
abbrev S256x1 : Shape := ⟨2, ![256, 1]⟩
abbrev S512x6144 : Shape := ⟨2, ![512, 6144]⟩
abbrev S512x256 : Shape := ⟨2, ![512, 256]⟩
abbrev S256 : Shape := ⟨1, ![256]⟩
abbrev S1x256 : Shape := ⟨2, ![1, 256]⟩
abbrev S512x128 : Shape := ⟨2, ![512, 128]⟩
abbrev S128x512 : Shape := ⟨2, ![128, 512]⟩
abbrev S1x1x512 : Shape := ⟨3, ![1, 1, 512]⟩
abbrev S32x128 : Shape := ⟨2, ![32, 128]⟩
abbrev S32x1 : Shape := ⟨2, ![32, 1]⟩
abbrev S32x256 : Shape := ⟨2, ![32, 256]⟩
abbrev S1x64x128 : Shape := ⟨3, ![1, 64, 128]⟩
abbrev S1x32x128 : Shape := ⟨3, ![1, 32, 128]⟩
abbrev S64x256 : Shape := ⟨2, ![64, 256]⟩
abbrev S128x256 : Shape := ⟨2, ![128, 256]⟩
abbrev S1x128x256 : Shape := ⟨3, ![1, 128, 256]⟩
abbrev S1x1x256 : Shape := ⟨3, ![1, 1, 256]⟩
abbrev S256x64 : Shape := ⟨2, ![256, 64]⟩
abbrev S576x1024 : Shape := ⟨2, ![576, 1024]⟩
abbrev S256x1024 : Shape := ⟨2, ![256, 1024]⟩

abbrev nBuf : Space → Nat
  | .hbm => 19
  | .vmem => 22
  | .smem => 1
  | _ => 0

abbrev bufTy : (tb : Table) → Fin (tcTables nBuf tb) → BufTy
  | .hbm, ⟨0, _⟩ => ⟨S2x768x6144, .fp8e4m3⟩
  | .hbm, ⟨1, _⟩ => ⟨S2x768x48, .f32⟩
  | .hbm, ⟨2, _⟩ => ⟨S6144x576, .fp8e4m3⟩
  | .hbm, ⟨3, _⟩ => ⟨S48x5, .f32⟩
  | .hbm, ⟨4, _⟩ => ⟨S512, .f32⟩
  | .hbm, ⟨5, _⟩ => ⟨S2x768, .i32⟩
  | .hbm, ⟨6, _⟩ => ⟨S2x768x512, .bf16⟩
  | .hbm, ⟨7, _⟩ => ⟨S2x768x64, .bf16⟩
  | .hbm, ⟨8, _⟩ => ⟨S1536x6144, .fp8e4m3⟩
  | .hbm, ⟨9, _⟩ => ⟨S2x48x768, .f32⟩
  | .hbm, ⟨10, _⟩ => ⟨S576x6144, .fp8e4m3⟩
  | .hbm, ⟨11, _⟩ => ⟨S5x48, .f32⟩
  | .hbm, ⟨12, _⟩ => ⟨S1x512, .f32⟩
  | .hbm, ⟨13, _⟩ => ⟨S1536x512, .bf16⟩
  | .hbm, ⟨14, _⟩ => ⟨S2x64x768, .bf16⟩
  | .hbm, ⟨15, _⟩ => ⟨S1536x6144, .bf16⟩
  | .hbm, ⟨16, _⟩ => ⟨S6x2x512, .f32⟩
  | .hbm, ⟨17, _⟩ => ⟨S2x576x768, .fp8e5m2⟩
  | .hbm, ⟨18, _⟩ => ⟨S5x2x768, .f32⟩
  | .local _ .vmem, ⟨0, _⟩ => ⟨S256x6144, .fp8e4m3⟩
  | .local _ .vmem, ⟨1, _⟩ => ⟨S256x6144, .fp8e4m3⟩
  | .local _ .vmem, ⟨2, _⟩ => ⟨S1x48x256, .f32⟩
  | .local _ .vmem, ⟨3, _⟩ => ⟨S1x48x256, .f32⟩
  | .local _ .vmem, ⟨4, _⟩ => ⟨S576x6144, .fp8e4m3⟩
  | .local _ .vmem, ⟨5, _⟩ => ⟨S1x512, .f32⟩
  | .local _ .vmem, ⟨6, _⟩ => ⟨S2x768, .i32⟩
  | .local _ .vmem, ⟨7, _⟩ => ⟨S256x512, .bf16⟩
  | .local _ .vmem, ⟨8, _⟩ => ⟨S256x512, .bf16⟩
  | .local _ .vmem, ⟨9, _⟩ => ⟨S1x64x256, .bf16⟩
  | .local _ .vmem, ⟨10, _⟩ => ⟨S1x64x256, .bf16⟩
  | .local _ .vmem, ⟨11, _⟩ => ⟨S256x6144, .bf16⟩
  | .local _ .vmem, ⟨12, _⟩ => ⟨S256x6144, .bf16⟩
  | .local _ .vmem, ⟨13, _⟩ => ⟨S6x2x512, .f32⟩
  | .local _ .vmem, ⟨14, _⟩ => ⟨S1x576x256, .fp8e5m2⟩
  | .local _ .vmem, ⟨15, _⟩ => ⟨S1x576x256, .fp8e5m2⟩
  | .local _ .vmem, ⟨16, _⟩ => ⟨S5x2x768, .f32⟩
  | .local _ .vmem, ⟨17, _⟩ => ⟨S576x6144, .bf16⟩
  | .local _ .vmem, ⟨18, _⟩ => ⟨S256x6144, .bf16⟩
  | .local _ .vmem, ⟨19, _⟩ => ⟨S2x64x128, .f32⟩
  | .local _ .vmem, ⟨20, _⟩ => ⟨S2x64x128, .f32⟩
  | .local _ .vmem, ⟨21, _⟩ => ⟨S256x576, .bf16⟩
  | .local _ .smem, ⟨0, _⟩ => ⟨S5x48, .f32⟩
  | _, _ => ⟨S2x768x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨2, ![2, 3], ![false, false]⟩

def k0_off1 (i : grid0.Coords) (c0_i32_161 : BitVec 32) : Fin 3 → Nat :=
  let arg1 : BitVec 32 := BitVec.ofNat 32 (i 1).val
  let c2_i32 : BitVec 32 := 2#32
  let v517 : BitVec 32 := Scalar.muli arg1 c2_i32
  let v518 : BitVec 32 := Scalar.addi v517 c0_i32_161
  let v519 : Index := Scalar.indexCast v518
  let arg0 : BitVec 32 := BitVec.ofNat 32 (i 0).val
  let v520 : Index := Scalar.indexCast arg0
  let c0_162 : Index := 0#32
  ![v519.toNat, v520.toNat, 0]
def k0_off2 (i : grid0.Coords) : Fin 2 → Nat :=
  let arg0 : BitVec 32 := BitVec.ofNat 32 (i 0).val
  let v560 : Index := Scalar.indexCast arg0
  let arg1 : BitVec 32 := BitVec.ofNat 32 (i 1).val
  let c256_i32 : BitVec 32 := 256#32
  let v559 : BitVec 32 := Scalar.muli arg1 c256_i32
  let v561 : Index := Scalar.indexCast v559
  ![v560.toNat, v561.toNat]
def k0_off3 (i : grid0.Coords) : Fin 3 → Nat :=
  let c0_239 : Index := 0#32
  let arg0 : BitVec 32 := BitVec.ofNat 32 (i 0).val
  let v728 : Index := Scalar.indexCast arg0
  let arg1 : BitVec 32 := BitVec.ofNat 32 (i 1).val
  let c256_i32_215 : BitVec 32 := 256#32
  let v631 : BitVec 32 := Scalar.muli arg1 c256_i32_215
  let v729 : Index := Scalar.indexCast v631
  ![0, v728.toNat, v729.toNat]
def k0_off4 (i : grid0.Coords) : Fin 3 → Nat :=
  let c1_276 : Index := 1#32
  let arg0 : BitVec 32 := BitVec.ofNat 32 (i 0).val
  let v837 : Index := Scalar.indexCast arg0
  let arg1 : BitVec 32 := BitVec.ofNat 32 (i 1).val
  let c256_i32_215 : BitVec 32 := 256#32
  let v631 : BitVec 32 := Scalar.muli arg1 c256_i32_215
  let v838 : Index := Scalar.indexCast v631
  ![1, v837.toNat, v838.toNat]
def k0_off5 (i : grid0.Coords) : Fin 3 → Nat :=
  let c2 : Index := 2#32
  let arg0 : BitVec 32 := BitVec.ofNat 32 (i 0).val
  let v946 : Index := Scalar.indexCast arg0
  let arg1 : BitVec 32 := BitVec.ofNat 32 (i 1).val
  let c256_i32_215 : BitVec 32 := 256#32
  let v631 : BitVec 32 := Scalar.muli arg1 c256_i32_215
  let v947 : Index := Scalar.indexCast v631
  ![2, v946.toNat, v947.toNat]
def k0_off6 (i : grid0.Coords) : Fin 3 → Nat :=
  let c3 : Index := 3#32
  let arg0 : BitVec 32 := BitVec.ofNat 32 (i 0).val
  let v1055 : Index := Scalar.indexCast arg0
  let arg1 : BitVec 32 := BitVec.ofNat 32 (i 1).val
  let c256_i32_215 : BitVec 32 := 256#32
  let v631 : BitVec 32 := Scalar.muli arg1 c256_i32_215
  let v1056 : Index := Scalar.indexCast v631
  ![3, v1055.toNat, v1056.toNat]
def k0_off7 (i : grid0.Coords) : Fin 3 → Nat :=
  let c4 : Index := 4#32
  let arg0 : BitVec 32 := BitVec.ofNat 32 (i 0).val
  let v1163 : Index := Scalar.indexCast arg0
  let arg1 : BitVec 32 := BitVec.ofNat 32 (i 1).val
  let c256_i32_215 : BitVec 32 := 256#32
  let v631 : BitVec 32 := Scalar.muli arg1 c256_i32_215
  let v1164 : Index := Scalar.indexCast v631
  ![4, v1163.toNat, v1164.toNat]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x6144 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S576x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S5x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x768 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S6x2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x576x256 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S5x2x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S2x768x6144 : Shape := ⟨3, ![2, 768, 6144]⟩
abbrev S2x768x48 : Shape := ⟨3, ![2, 768, 48]⟩
abbrev S6144x576 : Shape := ⟨2, ![6144, 576]⟩
abbrev S48x5 : Shape := ⟨2, ![48, 5]⟩
abbrev S512 : Shape := ⟨1, ![512]⟩
abbrev S2x768 : Shape := ⟨2, ![2, 768]⟩
abbrev S2x768x512 : Shape := ⟨3, ![2, 768, 512]⟩
abbrev S2x768x64 : Shape := ⟨3, ![2, 768, 64]⟩
abbrev S2x768x48x1 : Shape := ⟨4, ![2, 768, 48, 1]⟩
abbrev S2x768x48x128 : Shape := ⟨4, ![2, 768, 48, 128]⟩
abbrev S1536x6144 : Shape := ⟨2, ![1536, 6144]⟩
abbrev S48x1x5x1 : Shape := ⟨4, ![48, 1, 5, 1]⟩
abbrev S48x128x5x128 : Shape := ⟨4, ![48, 128, 5, 128]⟩
abbrev S6144x640 : Shape := ⟨2, ![6144, 640]⟩
abbrev S32 : Shape := ⟨1, ![32]⟩
abbrev S_ : Shape := ⟨0, ![]⟩
abbrev S2x768x1 : Shape := ⟨3, ![2, 768, 1]⟩
abbrev S1x1x32 : Shape := ⟨3, ![1, 1, 32]⟩
abbrev S2x768x32 : Shape := ⟨3, ![2, 768, 32]⟩
abbrev S2x768x32x2 : Shape := ⟨4, ![2, 768, 32, 2]⟩
abbrev S2x768x32x1 : Shape := ⟨4, ![2, 768, 32, 1]⟩
abbrev S1536x64 : Shape := ⟨2, ![1536, 64]⟩
abbrev S1x512 : Shape := ⟨2, ![1, 512]⟩
abbrev S1536x512 : Shape := ⟨2, ![1536, 512]⟩
abbrev S6x2x512 : Shape := ⟨3, ![6, 2, 512]⟩
abbrev S2x576x768 : Shape := ⟨3, ![2, 576, 768]⟩
abbrev S5x2x768 : Shape := ⟨3, ![5, 2, 768]⟩
abbrev S6144x512 : Shape := ⟨2, ![6144, 512]⟩
abbrev S6144x64 : Shape := ⟨2, ![6144, 64]⟩
abbrev S1536 : Shape := ⟨1, ![1536]⟩
abbrev S1536x1 : Shape := ⟨2, ![1536, 1]⟩
abbrev S2x6x128x512 : Shape := ⟨4, ![2, 6, 128, 512]⟩
abbrev S2x6x512 : Shape := ⟨3, ![2, 6, 512]⟩
abbrev S1536x4x128 : Shape := ⟨3, ![1536, 4, 128]⟩
abbrev S1536x4 : Shape := ⟨2, ![1536, 4]⟩
abbrev S1536x5 : Shape := ⟨2, ![1536, 5]⟩
abbrev S1536x5x256 : Shape := ⟨3, ![1536, 5, 256]⟩
abbrev S1536x5x1 : Shape := ⟨3, ![1536, 5, 1]⟩
abbrev S1536x4x1 : Shape := ⟨3, ![1536, 4, 1]⟩
abbrev S1536x576 : Shape := ⟨2, ![1536, 576]⟩
abbrev S2x768x576 : Shape := ⟨3, ![2, 768, 576]⟩
abbrev S5x1536 : Shape := ⟨2, ![5, 1536]⟩

abbrev nBuf : Space → Nat
  | .hbm => 65
  | .vmem => 11
  | .smem => 0
  | _ => 0

abbrev bufTy : (tb : Table) → Fin (tcTables nBuf tb) → BufTy
  | .hbm, ⟨0, _⟩ => ⟨S2x768x6144, .fp8e4m3⟩
  | .hbm, ⟨1, _⟩ => ⟨S2x768x48, .f32⟩
  | .hbm, ⟨2, _⟩ => ⟨S6144x576, .fp8e4m3⟩
  | .hbm, ⟨3, _⟩ => ⟨S48x5, .f32⟩
  | .hbm, ⟨4, _⟩ => ⟨S512, .f32⟩
  | .hbm, ⟨5, _⟩ => ⟨S2x768, .i32⟩
  | .hbm, ⟨6, _⟩ => ⟨S2x768x512, .bf16⟩
  | .hbm, ⟨7, _⟩ => ⟨S2x768x64, .bf16⟩
  | .hbm, ⟨8, _⟩ => ⟨S2x768x48, .bf16⟩
  | .hbm, ⟨9, _⟩ => ⟨S2x768x48x1, .bf16⟩
  | .hbm, ⟨10, _⟩ => ⟨S2x768x48x128, .bf16⟩
  | .hbm, ⟨11, _⟩ => ⟨S1536x6144, .bf16⟩
  | .hbm, ⟨12, _⟩ => ⟨S48x5, .bf16⟩
  | .hbm, ⟨13, _⟩ => ⟨S48x1x5x1, .bf16⟩
  | .hbm, ⟨14, _⟩ => ⟨S48x128x5x128, .bf16⟩
  | .hbm, ⟨15, _⟩ => ⟨S6144x640, .bf16⟩
  | .hbm, ⟨16, _⟩ => ⟨S6144x576, .bf16⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S2x768, .f32⟩
  | .hbm, ⟨34, _⟩ => ⟨S2x768x1, .f32⟩
  | .hbm, ⟨35, _⟩ => ⟨S1x1x32, .f32⟩
  | .hbm, ⟨36, _⟩ => ⟨S2x768x32, .f32⟩
  | .hbm, ⟨37, _⟩ => ⟨S2x768x32, .f32⟩
  | .hbm, ⟨38, _⟩ => ⟨S2x768x32, .f32⟩
  | .hbm, ⟨39, _⟩ => ⟨S2x768x32, .f32⟩
  | .hbm, ⟨40, _⟩ => ⟨S2x768x32, .f32⟩
  | .hbm, ⟨41, _⟩ => ⟨S2x768x64, .f32⟩
  | .hbm, ⟨42, _⟩ => ⟨S2x768x32x2, .f32⟩
  | .hbm, ⟨43, _⟩ => ⟨S2x768x32x1, .f32⟩
  | .hbm, ⟨44, _⟩ => ⟨S2x768x32, .f32⟩
  | .hbm, ⟨45, _⟩ => ⟨S2x768x32x1, .f32⟩
  | .hbm, ⟨46, _⟩ => ⟨S2x768x32, .f32⟩
  | .hbm, ⟨47, _⟩ => ⟨S2x768x32, .f32⟩
  | .hbm, ⟨48, _⟩ => ⟨S2x768x32, .f32⟩
  | .hbm, ⟨49, _⟩ => ⟨S2x768x32, .f32⟩
  | .hbm, ⟨50, _⟩ => ⟨S2x768x32, .f32⟩
  | .hbm, ⟨51, _⟩ => ⟨S2x768x32, .f32⟩
  | .hbm, ⟨52, _⟩ => ⟨S2x768x32, .f32⟩
  | .hbm, ⟨53, _⟩ => ⟨S2x768x32, .f32⟩
  | .hbm, ⟨54, _⟩ => ⟨S2x768x32x1, .f32⟩
  | .hbm, ⟨55, _⟩ => ⟨S2x768x32x1, .f32⟩
  | .hbm, ⟨56, _⟩ => ⟨S2x768x32x2, .f32⟩
  | .hbm, ⟨57, _⟩ => ⟨S1536x64, .f32⟩
  | .hbm, ⟨58, _⟩ => ⟨S1536x6144, .fp8e4m3⟩
  | .hbm, ⟨59, _⟩ => ⟨S1x512, .f32⟩
  | .hbm, ⟨60, _⟩ => ⟨S1536x512, .bf16⟩
  | .hbm, ⟨61, _⟩ => ⟨S1536x6144, .bf16⟩
  | .hbm, ⟨62, _⟩ => ⟨S6x2x512, .f32⟩
  | .hbm, ⟨63, _⟩ => ⟨S2x576x768, .fp8e5m2⟩
  | .hbm, ⟨64, _⟩ => ⟨S5x2x768, .f32⟩
  | .local _ .vmem, ⟨0, _⟩ => ⟨S1536x6144, .fp8e4m3⟩
  | .local _ .vmem, ⟨1, _⟩ => ⟨S1536x6144, .bf16⟩
  | .local _ .vmem, ⟨2, _⟩ => ⟨S6144x576, .fp8e4m3⟩
  | .local _ .vmem, ⟨3, _⟩ => ⟨S6144x576, .bf16⟩
  | .local _ .vmem, ⟨4, _⟩ => ⟨S1x512, .f32⟩
  | .local _ .vmem, ⟨5, _⟩ => ⟨S1536x512, .bf16⟩
  | .local _ .vmem, ⟨6, _⟩ => ⟨S1536x64, .f32⟩
  | .local _ .vmem, ⟨7, _⟩ => ⟨S1536x6144, .bf16⟩
  | .local _ .vmem, ⟨8, _⟩ => ⟨S6x2x512, .f32⟩
  | .local _ .vmem, ⟨9, _⟩ => ⟨S2x576x768, .fp8e5m2⟩
  | .local _ .vmem, ⟨10, _⟩ => ⟨S5x2x768, .f32⟩
  | _, _ => ⟨S2x768x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48_0 : Ref sig .tc := ⟨.hbm, 61, rfl⟩
abbrev main_v48_1 : Ref sig .tc := ⟨.hbm, 62, rfl⟩
abbrev main_v48_2 : Ref sig .tc := ⟨.hbm, 63, rfl⟩
abbrev main_v48_3 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1536x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x576x768 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x2x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelOps.lean ====
/- The printed kernel (at any float instance): the frame claim from a run of relational proof data, the body's branch condition
   and the buffers the body is handed. -/
module

public import proofs.«01_k».proof.Proof.Gen.Kernel.Frame
public import proofs.«01_k».proof.Proof.Gen.Kernel.Skeleton
public import Idealize.ShloMosaic.Lib.Pipeline.FrameBody
public import Idealize.ShloMosaic.Lib.Ring

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 3 % 2 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 6 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x6144 .fp8e4m3 := win0_0.stage (cfg0.slots t 0)
/-- That buffer is a whole one (window 0). -/
abbrev hs0_0 (t : Fin cfg0.N) : (ms0_0 t).IsWhole := hstage0_0 ((cfg0.slots t 0).cast nbuf0_0)
/-- The buffer of window 1 at a point. -/
abbrev ms0_1 (t : Fin cfg0.N) : Memref sig .tc .vmem S1x48x256 .f32 := win0_1.stage (cfg0.slots t 1)
/-- That buffer is a whole one (window 1). -/
abbrev hs0_1 (t : Fin cfg0.N) : (ms0_1 t).IsWhole := hstage0_1 ((cfg0.slots t 1).cast nbuf0_1)
/-- The buffer of window 2 at a point. -/
abbrev ms0_2 (t : Fin cfg0.N) : Memref sig .tc .vmem S576x6144 .fp8e4m3 := win0_2.stage (cfg0.slots t 2)
/-- That buffer is a whole one (window 2). -/
abbrev hs0_2 (t : Fin cfg0.N) : (ms0_2 t).IsWhole := hstage0_2 ((cfg0.slots t 2).cast nbuf0_2)
/-- The buffer of window 3 at a point. -/
abbrev ms0_3 (t : Fin cfg0.N) : Memref sig .tc .smem S5x48 .f32 := win0_3.stage (cfg0.slots t 3)
/-- That buffer is a whole one (window 3). -/
abbrev hs0_3 (t : Fin cfg0.N) : (ms0_3 t).IsWhole := hstage0_3 ((cfg0.slots t 3).cast nbuf0_3)
/-- The buffer of window 4 at a point. -/
abbrev ms0_4 (t : Fin cfg0.N) : Memref sig .tc .vmem S1x512 .f32 := win0_4.stage (cfg0.slots t 4)
/-- That buffer is a whole one (window 4). -/
abbrev hs0_4 (t : Fin cfg0.N) : (ms0_4 t).IsWhole := hstage0_4 ((cfg0.slots t 4).cast nbuf0_4)
/-- The buffer of window 5 at a point. -/
abbrev ms0_5 (t : Fin cfg0.N) : Memref sig .tc .vmem S2x768 .i32 := win0_5.stage (cfg0.slots t 5)
/-- That buffer is a whole one (window 5). -/
abbrev hs0_5 (t : Fin cfg0.N) : (ms0_5 t).IsWhole := hstage0_5 ((cfg0.slots t 5).cast nbuf0_5)
/-- The buffer of window 6 at a point. -/
abbrev ms0_6 (t : Fin cfg0.N) : Memref sig .tc .vmem S256x512 .bf16 := win0_6.stage (cfg0.slots t 6)
/-- That buffer is a whole one (window 6). -/
abbrev hs0_6 (t : Fin cfg0.N) : (ms0_6 t).IsWhole := hstage0_6 ((cfg0.slots t 6).cast nbuf0_6)
/-- The buffer of window 7 at a point. -/
abbrev ms0_7 (t : Fin cfg0.N) : Memref sig .tc .vmem S1x64x256 .bf16 := win0_7.stage (cfg0.slots t 7)
/-- That buffer is a whole one (window 7). -/
abbrev hs0_7 (t : Fin cfg0.N) : (ms0_7 t).IsWhole := hstage0_7 ((cfg0.slots t 7).cast nbuf0_7)
/-- The buffer of window 8 at a point. -/
abbrev ms0_8 (t : Fin cfg0.N) : Memref sig .tc .vmem S256x6144 .bf16 := win0_8.stage (cfg0.slots t 8)
/-- That buffer is a whole one (window 8). -/
abbrev hs0_8 (t : Fin cfg0.N) : (ms0_8 t).IsWhole := hstage0_8 ((cfg0.slots t 8).cast nbuf0_8)
/-- The buffer of window 9 at a point. -/
abbrev ms0_9 (t : Fin cfg0.N) : Memref sig .tc .vmem S6x2x512 .f32 := win0_9.stage (cfg0.slots t 9)
/-- That buffer is a whole one (window 9). -/
abbrev hs0_9 (t : Fin cfg0.N) : (ms0_9 t).IsWhole := hstage0_9 ((cfg0.slots t 9).cast nbuf0_9)
/-- The buffer of window 10 at a point. -/
abbrev ms0_10 (t : Fin cfg0.N) : Memref sig .tc .vmem S1x576x256 .fp8e5m2 := win0_10.stage (cfg0.slots t 10)
/-- That buffer is a whole one (window 10). -/
abbrev hs0_10 (t : Fin cfg0.N) : (ms0_10 t).IsWhole := hstage0_10 ((cfg0.slots t 10).cast nbuf0_10)
/-- The buffer of window 11 at a point. -/
abbrev ms0_11 (t : Fin cfg0.N) : Memref sig .tc .vmem S5x2x768 .f32 := win0_11.stage (cfg0.slots t 11)
/-- That buffer is a whole one (window 11). -/
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S576x6144 .bf16 := Memref.whole cc0_scratch0
/-- Scratch buffer 1, whole. -/
abbrev scM0_1 : Memref sig .tc .vmem S256x6144 .bf16 := Memref.whole cc0_scratch1
/-- Scratch buffer 2, whole. -/
abbrev scM0_2 : Memref sig .tc .vmem S2x64x128 .f32 := Memref.whole cc0_scratch2
/-- Scratch buffer 3, whole. -/
abbrev scM0_3 : Memref sig .tc .vmem S2x64x128 .f32 := Memref.whole cc0_scratch3
/-- Scratch buffer 4, whole. -/
abbrev scM0_4 : Memref sig .tc .vmem S256x576 .bf16 := Memref.whole cc0_scratch4
/-- The scratch `arg14` the kernel carries between points, as a view: what it holds is stated through it. -/
abbrev VS0_0 : View sig .tc .vmem S576x6144 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KernelRunFirst.lean ====
/- The printed kernel's whole-body run at the first grid point, the outputs left at some contents. -/
module

public import proofs.«01_k».proof.Proof.KernelOps

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6964000 in set_option sl_exec.stridedRows true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11) at anything, handed back at some contents nothing names. -/
noncomputable def kernelRun0_A (c : Dev nD) (i : grid0.Coords) (arg2 : Memref sig .tc .vmem S256x6144 .fp8e4m3) (harg2 : arg2.IsWhole) (arg3 : Memref sig .tc .vmem S1x48x256 .f32) (harg3 : arg3.IsWhole) (arg4 : Memref sig .tc .vmem S576x6144 .fp8e4m3) (harg4 : arg4.IsWhole) (arg5 : Memref sig .tc .smem S5x48 .f32) (harg5 : arg5.IsWhole) (arg6 : Memref sig .tc .vmem S1x512 .f32) (harg6 : arg6.IsWhole) (arg7 : Memref sig .tc .vmem S2x768 .i32) (harg7 : arg7.IsWhole) (arg8 : Memref sig .tc .vmem S256x512 .bf16) (harg8 : arg8.IsWhole) (arg9 : Memref sig .tc .vmem S1x64x256 .bf16) (harg9 : arg9.IsWhole) (arg10 : Memref sig .tc .vmem S256x6144 .bf16) (harg10 : arg10.IsWhole) (arg11 : Memref sig .tc .vmem S6x2x512 .f32) (harg11 : arg11.IsWhole) (arg12 : Memref sig .tc .vmem S1x576x256 .fp8e5m2) (harg12 : arg12.IsWhole) (arg13 : Memref sig .tc .vmem S5x2x768 .f32) (harg13 : arg13.IsWhole) (arg14 : Memref sig .tc .vmem S576x6144 .bf16) (harg14 : arg14.IsWhole) (arg15 : Memref sig .tc .vmem S256x6144 .bf16) (harg15 : arg15.IsWhole) (arg16 : Memref sig .tc .vmem S2x64x128 .f32) (harg16 : arg16.IsWhole) (arg17 : Memref sig .tc .vmem S2x64x128 .f32) (harg17 : arg17.IsWhole) (arg18 : Memref sig .tc .vmem S256x576 .bf16) (harg18 : arg18.IsWhole) (hc0 : cond0_0 i)
    (x0 : Vec F S256x6144 .fp8e4m3) (x1 : Vec F S1x48x256 .f32) (x2 : Vec F S576x6144 .fp8e4m3) (x3 : Vec F S5x48 .f32) (x4 : Vec F S1x512 .f32) (x5 : Vec F S2x768 .i32) (x6 : Vec F S256x512 .bf16) (x7 : Vec F S1x64x256 .bf16) :
    { LS0 : List (View.Piece (Elt F) S576x6144 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_mla_kv_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_mla_kv_bwd_eq_skeleton]; unfold cc0_mla_kv_bwd_skel
    simp only [k0_part99_eq_skeleton, k0_part70_eq_skeleton, k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.KernelRunNext.lean ====
/- The printed kernel's whole-body run at every grid point but the first, the outputs left at some contents. -/
module

public import proofs.«01_k».proof.Proof.KernelRunFirst

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1612000 in set_option sl_exec.stridedRows true in
/-- What the body's stores leave in each output's staging memref, as pieces (last first) IN CASE B (`scf.if` 0 not taken: points 1, 2, 3, 4, 5), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10, 11) at anything, handed back at some contents nothing names. -/
noncomputable def kernelRun0_B (c : Dev nD) (i : grid0.Coords) (arg2 : Memref sig .tc .vmem S256x6144 .fp8e4m3) (harg2 : arg2.IsWhole) (arg3 : Memref sig .tc .vmem S1x48x256 .f32) (harg3 : arg3.IsWhole) (arg4 : Memref sig .tc .vmem S576x6144 .fp8e4m3) (harg4 : arg4.IsWhole) (arg5 : Memref sig .tc .smem S5x48 .f32) (harg5 : arg5.IsWhole) (arg6 : Memref sig .tc .vmem S1x512 .f32) (harg6 : arg6.IsWhole) (arg7 : Memref sig .tc .vmem S2x768 .i32) (harg7 : arg7.IsWhole) (arg8 : Memref sig .tc .vmem S256x512 .bf16) (harg8 : arg8.IsWhole) (arg9 : Memref sig .tc .vmem S1x64x256 .bf16) (harg9 : arg9.IsWhole) (arg10 : Memref sig .tc .vmem S256x6144 .bf16) (harg10 : arg10.IsWhole) (arg11 : Memref sig .tc .vmem S6x2x512 .f32) (harg11 : arg11.IsWhole) (arg12 : Memref sig .tc .vmem S1x576x256 .fp8e5m2) (harg12 : arg12.IsWhole) (arg13 : Memref sig .tc .vmem S5x2x768 .f32) (harg13 : arg13.IsWhole) (arg14 : Memref sig .tc .vmem S576x6144 .bf16) (harg14 : arg14.IsWhole) (arg15 : Memref sig .tc .vmem S256x6144 .bf16) (harg15 : arg15.IsWhole) (arg16 : Memref sig .tc .vmem S2x64x128 .f32) (harg16 : arg16.IsWhole) (arg17 : Memref sig .tc .vmem S2x64x128 .f32) (harg17 : arg17.IsWhole) (arg18 : Memref sig .tc .vmem S256x576 .bf16) (harg18 : arg18.IsWhole) (hc0 : ¬cond0_0 i)
    (x0 : Vec F S256x6144 .fp8e4m3) (x1 : Vec F S1x48x256 .f32) (x2 : Vec F S576x6144 .fp8e4m3) (x3 : Vec F S5x48 .f32) (x4 : Vec F S1x512 .f32) (x5 : Vec F S2x768 .i32) (x6 : Vec F S256x512 .bf16) (x7 : Vec F S1x64x256 .bf16) (xs0 : Vec F S576x6144 .bf16) :
    { LS0 : List (View.Piece (Elt F) S576x6144 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_mla_kv_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], fun E K => ?run⟩
  case run =>
    simp only [cc0_mla_kv_bwd_eq_skeleton]; unfold cc0_mla_kv_bwd_skel
    simp only [k0_part99_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg14.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.KernelFrame.lean ====
/- The printed kernel's frame: the body at every grid point, the launch, and the argument arrays unchanged. -/
module

public import proofs.«01_k».proof.Proof.KernelRunNext
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg14`, which the kernel carries between points, cover it: 240 pieces (stores and landed copies) of several sizes (`S128x128`, `S64x128`) tiling it when cut into blocks of `![64, 128]` (Lib/Ring.lean `Piece.tiledBy`). -/
theorem scover0_A_0 (c : Dev nD) (i : grid0.Coords) (arg2 : Memref sig .tc .vmem S256x6144 .fp8e4m3) (harg2 : arg2.IsWhole) (arg3 : Memref sig .tc .vmem S1x48x256 .f32) (harg3 : arg3.IsWhole) (arg4 : Memref sig .tc .vmem S576x6144 .fp8e4m3) (harg4 : arg4.IsWhole) (arg5 : Memref sig .tc .smem S5x48 .f32) (harg5 : arg5.IsWhole) (arg6 : Memref sig .tc .vmem S1x512 .f32) (harg6 : arg6.IsWhole) (arg7 : Memref sig .tc .vmem S2x768 .i32) (harg7 : arg7.IsWhole) (arg8 : Memref sig .tc .vmem S256x512 .bf16) (harg8 : arg8.IsWhole) (arg9 : Memref sig .tc .vmem S1x64x256 .bf16) (harg9 : arg9.IsWhole) (arg10 : Memref sig .tc .vmem S256x6144 .bf16) (harg10 : arg10.IsWhole) (arg11 : Memref sig .tc .vmem S6x2x512 .f32) (harg11 : arg11.IsWhole) (arg12 : Memref sig .tc .vmem S1x576x256 .fp8e5m2) (harg12 : arg12.IsWhole) (arg13 : Memref sig .tc .vmem S5x2x768 .f32) (harg13 : arg13.IsWhole) (arg14 : Memref sig .tc .vmem S576x6144 .bf16) (harg14 : arg14.IsWhole) (arg15 : Memref sig .tc .vmem S256x6144 .bf16) (harg15 : arg15.IsWhole) (arg16 : Memref sig .tc .vmem S2x64x128 .f32) (harg16 : arg16.IsWhole) (arg17 : Memref sig .tc .vmem S2x64x128 .f32) (harg17 : arg17.IsWhole) (arg18 : Memref sig .tc .vmem S256x576 .bf16) (harg18 : arg18.IsWhole) (hc0 : cond0_0 i)
    (x0 : Vec F S256x6144 .fp8e4m3) (x1 : Vec F S1x48x256 .f32) (x2 : Vec F S576x6144 .fp8e4m3) (x3 : Vec F S5x48 .f32) (x4 : Vec F S1x512 .f32) (x5 : Vec F S2x768 .i32) (x6 : Vec F S256x512 .bf16) (x7 : Vec F S1x64x256 .bf16) (y : S576x6144.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).1 ![64, 128] (by sl_kernel_rfl) y

/-- What case A leaves in scratch `arg14`: its pieces read back over junk. -/
def sout0_A_0 (c : Dev nD) (i : grid0.Coords) (arg2 : Memref sig .tc .vmem S256x6144 .fp8e4m3) (harg2 : arg2.IsWhole) (arg3 : Memref sig .tc .vmem S1x48x256 .f32) (harg3 : arg3.IsWhole) (arg4 : Memref sig .tc .vmem S576x6144 .fp8e4m3) (harg4 : arg4.IsWhole) (arg5 : Memref sig .tc .smem S5x48 .f32) (harg5 : arg5.IsWhole) (arg6 : Memref sig .tc .vmem S1x512 .f32) (harg6 : arg6.IsWhole) (arg7 : Memref sig .tc .vmem S2x768 .i32) (harg7 : arg7.IsWhole) (arg8 : Memref sig .tc .vmem S256x512 .bf16) (harg8 : arg8.IsWhole) (arg9 : Memref sig .tc .vmem S1x64x256 .bf16) (harg9 : arg9.IsWhole) (arg10 : Memref sig .tc .vmem S256x6144 .bf16) (harg10 : arg10.IsWhole) (arg11 : Memref sig .tc .vmem S6x2x512 .f32) (harg11 : arg11.IsWhole) (arg12 : Memref sig .tc .vmem S1x576x256 .fp8e5m2) (harg12 : arg12.IsWhole) (arg13 : Memref sig .tc .vmem S5x2x768 .f32) (harg13 : arg13.IsWhole) (arg14 : Memref sig .tc .vmem S576x6144 .bf16) (harg14 : arg14.IsWhole) (arg15 : Memref sig .tc .vmem S256x6144 .bf16) (harg15 : arg15.IsWhole) (arg16 : Memref sig .tc .vmem S2x64x128 .f32) (harg16 : arg16.IsWhole) (arg17 : Memref sig .tc .vmem S2x64x128 .f32) (harg17 : arg17.IsWhole) (arg18 : Memref sig .tc .vmem S256x576 .bf16) (harg18 : arg18.IsWhole) (hc0 : cond0_0 i)
    (x0 : Vec F S256x6144 .fp8e4m3) (x1 : Vec F S1x48x256 .f32) (x2 : Vec F S576x6144 .fp8e4m3) (x3 : Vec F S5x48 .f32) (x4 : Vec F S1x512 .f32) (x5 : Vec F S2x768 .i32) (x6 : Vec F S256x512 .bf16) (x7 : Vec F S1x64x256 .bf16) : Vec F S576x6144 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).1)

/-- Case B stores nothing into scratch `arg14`: it holds what the point before left. -/
def sout0_B_0 (c : Dev nD) (i : grid0.Coords) (arg2 : Memref sig .tc .vmem S256x6144 .fp8e4m3) (harg2 : arg2.IsWhole) (arg3 : Memref sig .tc .vmem S1x48x256 .f32) (harg3 : arg3.IsWhole) (arg4 : Memref sig .tc .vmem S576x6144 .fp8e4m3) (harg4 : arg4.IsWhole) (arg5 : Memref sig .tc .smem S5x48 .f32) (harg5 : arg5.IsWhole) (arg6 : Memref sig .tc .vmem S1x512 .f32) (harg6 : arg6.IsWhole) (arg7 : Memref sig .tc .vmem S2x768 .i32) (harg7 : arg7.IsWhole) (arg8 : Memref sig .tc .vmem S256x512 .bf16) (harg8 : arg8.IsWhole) (arg9 : Memref sig .tc .vmem S1x64x256 .bf16) (harg9 : arg9.IsWhole) (arg10 : Memref sig .tc .vmem S256x6144 .bf16) (harg10 : arg10.IsWhole) (arg11 : Memref sig .tc .vmem S6x2x512 .f32) (harg11 : arg11.IsWhole) (arg12 : Memref sig .tc .vmem S1x576x256 .fp8e5m2) (harg12 : arg12.IsWhole) (arg13 : Memref sig .tc .vmem S5x2x768 .f32) (harg13 : arg13.IsWhole) (arg14 : Memref sig .tc .vmem S576x6144 .bf16) (harg14 : arg14.IsWhole) (arg15 : Memref sig .tc .vmem S256x6144 .bf16) (harg15 : arg15.IsWhole) (arg16 : Memref sig .tc .vmem S2x64x128 .f32) (harg16 : arg16.IsWhole) (arg17 : Memref sig .tc .vmem S2x64x128 .f32) (harg17 : arg17.IsWhole) (arg18 : Memref sig .tc .vmem S256x576 .bf16) (harg18 : arg18.IsWhole) (hc0 : ¬cond0_0 i)
    (x0 : Vec F S256x6144 .fp8e4m3) (x1 : Vec F S1x48x256 .f32) (x2 : Vec F S576x6144 .fp8e4m3) (x3 : Vec F S5x48 .f32) (x4 : Vec F S1x512 .f32) (x5 : Vec F S2x768 .i32) (x6 : Vec F S256x512 .bf16) (x7 : Vec F S1x64x256 .bf16) (xs0 : Vec F S576x6144 .bf16) : Vec F S576x6144 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S576x6144 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 6 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- `outsAt0` at a point of case A: that case's contents. -/
theorem outsAt0_A (c : Dev nD) (t : Fin cfg0.N) (h0 : t.val % 6 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 6 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- Before the first point the carried scratch may hold anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (8, 9, 10, 11): nothing reads what the kernel leaves in them, so nothing
    of it is named (Lib/Pipeline/Dat.lean `Dat.toRForget`). -/
def forgets0 : Fin 12 → Bool := fun w => w.val == 8 || w.val == 9 || w.val == 10 || w.val == 11

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- Window 1's buffer still holds its block when the body ends. -/
theorem after0_1 (c : Dev nD) (t : Fin cfg0.N) : (dats m 0 c).after 1 t = iblk m c 1 t := by dsimp only [dats]
/-- Window 2's buffer still holds its block when the body ends. -/
theorem after0_2 (c : Dev nD) (t : Fin cfg0.N) : (dats m 0 c).after 2 t = iblk m c 2 t := by dsimp only [dats]
/-- Window 3's buffer still holds its block when the body ends. -/
theorem after0_3 (c : Dev nD) (t : Fin cfg0.N) : (dats m 0 c).after 3 t = iblk m c 3 t := by dsimp only [dats]
/-- Window 4's buffer still holds its block when the body ends. -/
theorem after0_4 (c : Dev nD) (t : Fin cfg0.N) : (dats m 0 c).after 4 t = iblk m c 4 t := by dsimp only [dats]
/-- Window 5's buffer still holds its block when the body ends. -/
theorem after0_5 (c : Dev nD) (t : Fin cfg0.N) : (dats m 0 c).after 5 t = iblk m c 5 t := by dsimp only [dats]
/-- Window 6's buffer still holds its block when the body ends. -/
theorem after0_6 (c : Dev nD) (t : Fin cfg0.N) : (dats m 0 c).after 6 t = iblk m c 6 t := by dsimp only [dats]
/-- Window 7's buffer still holds its block when the body ends. -/
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1's buffer holds its block when the body starts. -/
theorem before0_1 (c : Dev nD) (t : Fin cfg0.N) (d) : (dats m 0 c).before 1 t d = iblk m c 1 t :=
  before0_1_of m (dats m 0 c) (A_eq m c 1) (after0_1 m c) t d
/-- Window 2's buffer holds its block when the body starts. -/
theorem before0_2 (c : Dev nD) (t : Fin cfg0.N) (d) : (dats m 0 c).before 2 t d = iblk m c 2 t :=
  before0_2_of m (dats m 0 c) (A_eq m c 2) (after0_2 m c) t d
/-- Window 3's buffer holds its block when the body starts. -/
theorem before0_3 (c : Dev nD) (t : Fin cfg0.N) (d) : (dats m 0 c).before 3 t d = iblk m c 3 t :=
  before0_3_of m (dats m 0 c) (A_eq m c 3) (after0_3 m c) t d
/-- Window 4's buffer holds its block when the body starts. -/
theorem before0_4 (c : Dev nD) (t : Fin cfg0.N) (d) : (dats m 0 c).before 4 t d = iblk m c 4 t :=
  before0_4_of m (dats m 0 c) (A_eq m c 4) (after0_4 m c) t d
/-- Window 5's buffer holds its block when the body starts. -/
theorem before0_5 (c : Dev nD) (t : Fin cfg0.N) (d) : (dats m 0 c).before 5 t d = iblk m c 5 t :=
  before0_5_of m (dats m 0 c) (A_eq m c 5) (after0_5 m c) t d
/-- Window 6's buffer holds its block when the body starts. -/
theorem before0_6 (c : Dev nD) (t : Fin cfg0.N) (d) : (dats m 0 c).before 6 t d = iblk m c 6 t :=
  before0_6_of m (dats m 0 c) (A_eq m c 6) (after0_6 m c) t d
/-- Window 7's buffer holds its block when the body starts. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 6 := lt_of_lt_of_eq t.isLt (show cfg0.N = 6 from N_0)
  by_cases h0 : t.val % 6 = 0
  · by_cases hz : t.val = 0
    · rw [PhiS_castSucc m c t, PhiS_zero m c _ _ hz, PhiA0_eq]
      rw [outsAt0_A m c t h0]
      unfold sout0_A_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, ⟨%es0, HS0⟩, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · exfalso; have hN : t.val < 6 := lt_of_lt_of_eq t.isLt (show cfg0.N = 6 from N_0); omega
  · by_cases hz : t.val = 0
    · exfalso; have hN : t.val < 6 := lt_of_lt_of_eq t.isLt (show cfg0.N = 6 from N_0); omega
    · rw [PhiS_castSucc m c t, PhiS_pos m c _ _ hz]
      rw [outsAt0_B m c t h0]
      unfold sout0_B_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_ofR m ρ (fun c => (dats m 0 c).toRForget forgets0) (A_eq m) (run_main m ρ)

/-- THE FRAME: `Cert.quiescent_Kernel`'s statement (Defs.lean) at any `F`; Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.Spec.lean ====
module
public import Idealize.ShloMosaic.Lib.Pointwise
@[expose] public section
noncomputable section
/-! The backward pass, token by token, on the extended reals: what both programs compute. -/
namespace Cert.Spec
open Idealize.ShloMosaic
open scoped BigOperators

/-! ## The power-of-two scale of a group -/

/-- One step of the search for the biased exponent: take bit `s` when the power it leads to does not exceed `v`. -/
def stepB (v : EReal) (b s : BitVec 32) : BitVec 32 :=
  if Ideal.ofBits .f32 (IntOp.shli .vector (IntOp.addi b s) 23#32) ≤ v then IntOp.addi b s else b

/-- The eight steps. -/
def search (v : EReal) : BitVec 32 :=
  stepB v (stepB v (stepB v (stepB v (stepB v (stepB v (stepB v (stepB v 0#32 128#32) 64#32) 32#32) 16#32) 8#32) 4#32) 2#32) 1#32

/-- The biased exponent, 255 from 240 on. -/
def biased (v : EReal) : BitVec 32 :=
  Scalar.select (IntOp.cmpi .sge (search v) 240#32) 255#32 (search v)

/-- The exponent of the scale. -/
def expB (v : EReal) : BitVec 32 :=
  Scalar.select (IntOp.ori (IntOp.cmpi .eq (biased v) 0#32) (IntOp.cmpi .eq (biased v) 255#32)) 0#32
    (IntOp.subi (biased v) 126#32)

/-- The scale. -/
def scaleOf (v : EReal) : EReal := Ideal.ofBits .f32 (IntOp.shli .vector (IntOp.addi (expB v) 127#32) 23#32)

/-- Its inverse. -/
def invOf (v : EReal) : EReal := Ideal.ofBits .f32 (IntOp.shli .vector (IntOp.subi 127#32 (expB v)) 23#32)

/-- The power a biased exponent stands for. -/
def T (b : ℕ) : EReal := Ideal.ofBits .f32 (BitVec.ofNat 32 (b * 8388608))

/-- Moving a small number to the exponent field multiplies it by 2 to the 23. -/
theorem shl_eq (b : ℕ) (h : b < 512) : IntOp.shli .vector (BitVec.ofNat 32 b) 23#32 = BitVec.ofNat 32 (b * 8388608) := by
  unfold IntOp.shli
  rw [if_pos (by decide)]
  apply BitVec.eq_of_toNat_eq
  simp [BitVec.toNat_shiftLeft, Nat.shiftLeft_eq]

/-- The power that a normal biased exponent `b` stands for is 2 to the `b - 127`. -/
theorem T_eq (b : ℕ) (h1 : 1 ≤ b) (h2 : b ≤ 254) : T b = (((2 : ℝ) ^ ((b : ℤ) - 127) : ℝ) : EReal) := by
  unfold T Ideal.ofBits Ideal.ieee
  have hb : b * 8388608 < 2 ^ 32 := by omega
  have e1 : ((BitVec.ofNat 32 (b * 8388608)).extractLsb' 23 8).toNat = b := by
    rw [BitVec.extractLsb'_toNat, BitVec.toNat_ofNat, Nat.shiftRight_eq_div_pow]; omega
  have e2 : ((BitVec.ofNat 32 (b * 8388608)).extractLsb' 0 23).toNat = 0 := by
    rw [BitVec.extractLsb'_toNat, BitVec.toNat_ofNat, Nat.shiftRight_eq_div_pow]; omega
  have e3 : ((BitVec.ofNat 32 (b * 8388608)).extractLsb' (8 + 23) 1 == 1#1) = false := by
    rw [beq_eq_false_iff_ne]
    intro h
    have := congrArg BitVec.toNat h
    rw [BitVec.extractLsb'_toNat, BitVec.toNat_ofNat, Nat.shiftRight_eq_div_pow] at this
    simp at this; omega
  simp only [e1, e2, e3]
  rw [if_neg (by omega), if_neg (by omega)]
  congr 1
  have : ((b : ℤ) - (2 ^ (8 - 1) - 1) - (23 : ℕ)) = ((b : ℤ) - 127) - 23 := by norm_num
  rw [this, zpow_sub₀ (by norm_num) ((b : ℤ) - 127) 23]
  norm_num
  ring

/-- The biased exponent 255 stands for infinity. -/
theorem T_top : T 255 = ⊤ := by
  unfold T Ideal.ofBits Ideal.ieee
  simp

/-- The powers grow strictly with the biased exponent. -/
theorem T_lt (a b : ℕ) (h1 : 1 ≤ a) (h2 : a < b) (h3 : b ≤ 255) : T a < T b := by
  rcases Nat.lt_or_ge b 255 with h | h
  · rw [T_eq a h1 (by omega), T_eq b (by omega) (by omega)]
    exact EReal.coe_lt_coe_iff.mpr (zpow_lt_zpow_right₀ (by norm_num) (by omega))
  · have : b = 255 := by omega
    subst this
    rw [T_top, T_eq a h1 (by omega)]
    exact EReal.coe_lt_top _

/-- The powers grow with the biased exponent. -/
theorem T_le (a b : ℕ) (h1 : 1 ≤ a) (h2 : a ≤ b) (h3 : b ≤ 255) : T a ≤ T b := by
  rcases Nat.eq_or_lt_of_le h2 with h | h
  · rw [h]
  · exact (T_lt a b h1 h h3).le

/-- What the search keeps: `b` is within reach and the power it stands for does not exceed `v`. -/
def Inv (v : EReal) (x : BitVec 32) (s : ℕ) : Prop :=
  ∃ b : ℕ, x = BitVec.ofNat 32 b ∧ b + s ≤ 256 ∧ (b = 0 ∨ T b ≤ v) ∧ (b + s = 256 ∨ v < T (b + s))

/-- One step of the search keeps the invariant and halves the reach. -/
theorem step_inv (v : EReal) (x : BitVec 32) (s : ℕ) (hs : 1 ≤ s) (hx : Inv v x (2 * s)) : Inv v (stepB v x (BitVec.ofNat 32 s)) s := by
  obtain ⟨b, rfl, h1, h2, h3⟩ := hx
  unfold stepB
  have ha : IntOp.addi (BitVec.ofNat 32 b) (BitVec.ofNat 32 s) = BitVec.ofNat 32 (b + s) := by
    unfold IntOp.addi; rw [BitVec.ofNat_add]
  rw [ha, shl_eq (b + s) (by omega)]
  change Inv v (if T (b + s) ≤ v then _ else _) s
  split
  · next h =>
    exact ⟨b + s, rfl, by omega, .inr h, by rw [show b + s + s = b + 2 * s by omega]; exact h3⟩
  · next h =>
    exact ⟨b, rfl, by omega, h2, .inr (not_le.mp h)⟩

/-- After the eight steps the search has found the biased exponent: its power does not exceed `v` and the next one does. -/
theorem search_inv (v : EReal) : Inv v (search v) 1 := by
  unfold search
  refine step_inv v _ 1 (by omega) (step_inv v _ 2 (by omega) (step_inv v _ 4 (by omega) (step_inv v _ 8 (by omega)
    (step_inv v _ 16 (by omega) (step_inv v _ 32 (by omega) (step_inv v _ 64 (by omega) (step_inv v _ 128 (by omega) ?_)))))))
  exact ⟨0, rfl, by omega, .inl rfl, .inl rfl⟩

/-- The exponent as the reference states it: the largest `k` with `2 ^ (k - 1)` at most `v`, and 0 for a `v` below the
    normal numbers or too large. -/
def refE (v : EReal) : EReal :=
  if Ideal.ofBits .f32 0x00800000#32 ≤ v ∧ v < Ideal.ofBits .f32 0x78000000#32 then
    Finset.fold max (Ideal.ofBits .f32 0xFF800000#32)
      (fun x : Fin 256 => if Ideal.exp2 ((((x : ℕ) : ℝ) : EReal) - Ideal.ofBits .f32 0x42FA0000#32 - Ideal.ofBits .f32 0x3F800000#32) ≤ v
        then (((x : ℕ) : ℝ) : EReal) - Ideal.ofBits .f32 0x42FA0000#32 else Ideal.ofBits .f32 0xC2FA0000#32) Finset.univ
  else 0

/-- The constant 125. -/
theorem c125 : Ideal.ofBits .f32 0x42FA0000#32 = ((125 : ℝ) : EReal) := by
  simp [Ideal.ofBits, Ideal.ieee, -EReal.coe_mul]; norm_num
/-- The constant -125. -/
theorem cm125 : Ideal.ofBits .f32 0xC2FA0000#32 = ((-125 : ℝ) : EReal) := by
  simp [Ideal.ofBits, Ideal.ieee, -EReal.coe_mul]; norm_num
/-- The constant minus infinity. -/
theorem cbot : Ideal.ofBits .f32 0xFF800000#32 = ⊥ := by
  simp [Ideal.ofBits, Ideal.ieee]
/-- The constant 1. -/
theorem c1 : Ideal.ofBits .f32 0x3F800000#32 = ((1 : ℝ) : EReal) := by
  simp [Ideal.ofBits, Ideal.ieee, -EReal.coe_mul]; norm_num

/-- `exp2` of an integer is that power of two. -/
theorem exp2_int (k : ℤ) : Ideal.exp2 (((k : ℝ)) : EReal) = (((2 : ℝ) ^ k : ℝ) : EReal) := by
  change ((Real.rpow 2 (k : ℝ) : ℝ) : EReal) = _
  congr 1
  exact Real.rpow_intCast 2 k

/-- `exp2` of `b - 127` is the power that `b` stands for. -/
theorem exp2_T (b : ℕ) (h1 : 1 ≤ b) (h2 : b ≤ 254) (r : ℝ) (hr : r = (b : ℝ) - 127) : Ideal.exp2 (r : EReal) = T b := by
  rw [T_eq b h1 h2, ← exp2_int]
  congr 2
  rw [hr]; push_cast; ring

/-- What the search finds, as the reference's exponent sees it: either both exponents are 0, or the biased exponent is
    `b` between 1 and 239 and both are `b - 126`. -/
theorem exp_cases (v : EReal) : (expB v = 0#32 ∧ refE v = 0) ∨
    ∃ b : ℕ, 1 ≤ b ∧ b ≤ 239 ∧ expB v = BitVec.ofNat 32 b - 126#32 ∧ refE v = (((b : ℝ) - 126 : ℝ) : EReal) := by
  obtain ⟨b, hb, h1, h2, h3⟩ := search_inv v
  have T1 : Ideal.ofBits .f32 0x00800000#32 = T 1 := rfl
  have T240 : Ideal.ofBits .f32 0x78000000#32 = T 240 := rfl
  unfold expB biased refE
  rw [hb, T1, T240]
  by_cases hz : b = 0
  · left
    subst hz
    refine ⟨by decide, if_neg ?_⟩
    rcases h3 with h3 | h3
    · omega
    · exact fun h => absurd h.1 (not_le.mpr h3)
  have hTb : T b ≤ v := h2.resolve_left hz
  by_cases hl : 240 ≤ b
  · left
    refine ⟨?_, if_neg fun h => absurd h.2 (not_lt.mpr ((T_le 240 b (by omega) hl (by omega)).trans hTb))⟩
    have : ∀ b : Fin 256, 240 ≤ b.val → (Scalar.select (IntOp.ori (IntOp.cmpi .eq (Scalar.select (IntOp.cmpi .sge (BitVec.ofNat 32 b.val) 240#32) 255#32 (BitVec.ofNat 32 b.val)) 0#32) (IntOp.cmpi .eq (Scalar.select (IntOp.cmpi .sge (BitVec.ofNat 32 b.val) 240#32) 255#32 (BitVec.ofNat 32 b.val)) 255#32)) 0#32
        (IntOp.subi (Scalar.select (IntOp.cmpi .sge (BitVec.ofNat 32 b.val) 240#32) 255#32 (BitVec.ofNat 32 b.val)) 126#32)) = 0#32 := by decide +kernel
    exact this ⟨b, by omega⟩ hl
  · right
    refine ⟨b, by omega, by omega, ?_, ?_⟩
    · have : ∀ b : Fin 240, b.val ≠ 0 → (Scalar.select (IntOp.ori (IntOp.cmpi .eq (Scalar.select (IntOp.cmpi .sge (BitVec.ofNat 32 b.val) 240#32) 255#32 (BitVec.ofNat 32 b.val)) 0#32) (IntOp.cmpi .eq (Scalar.select (IntOp.cmpi .sge (BitVec.ofNat 32 b.val) 240#32) 255#32 (BitVec.ofNat 32 b.val)) 255#32)) 0#32
        (IntOp.subi (Scalar.select (IntOp.cmpi .sge (BitVec.ofNat 32 b.val) 240#32) 255#32 (BitVec.ofNat 32 b.val)) 126#32)) = BitVec.ofNat 32 b.val - 126#32 := by decide +kernel
      exact this ⟨b, by omega⟩ hz
    · have hlt : v < T (b + 1) := h3.resolve_left (by omega)
      rw [if_pos ⟨(T_le 1 b (by omega) (by omega) (by omega)).trans hTb, hlt.trans_le (T_le (b + 1) 240 (by omega) (by omega) (by omega))⟩]
      apply le_antisymm
      · rw [Finset.fold_max_le]
        refine ⟨by rw [cbot]; exact bot_le, fun x _ => ?_⟩
        split
        · next h =>
          rw [c125, c1] at h
          rw [c125, ← EReal.coe_sub, EReal.coe_le_coe_iff]
          by_contra hc
          have hx : b ≤ x.val := by
            by_contra hx
            have : (x.val : ℝ) + 1 ≤ b := by exact_mod_cast (not_le.mp hx)
            apply hc
            linarith
          have hx' := x.isLt
          have : T (b + 1) ≤ Ideal.exp2 (((((x : ℕ) : ℝ) : EReal)) - ((125 : ℝ) : EReal) - ((1 : ℝ) : EReal)) := by
            rw [← EReal.coe_sub, ← EReal.coe_sub]
            rw [show ((x.val : ℝ) - 125 - 1) = (((x.val : ℤ) - 126 : ℤ) : ℝ) by push_cast; ring, exp2_int, T_eq (b + 1) (by omega) (by omega), EReal.coe_le_coe_iff]
            exact zpow_le_zpow_right₀ (by norm_num) (by push_cast; omega)
          exact absurd (this.trans h) (not_le.mpr hlt)
        · rw [cm125, EReal.coe_le_coe_iff]
          have : (1 : ℝ) ≤ b := by exact_mod_cast (Nat.one_le_iff_ne_zero.mpr hz)
          linarith
      · rw [Finset.le_fold_max]
        right
        refine ⟨⟨b - 1, by omega⟩, Finset.mem_univ _, ?_⟩
        have hc : ((b - 1 : ℕ) : ℝ) = (b : ℝ) - 1 := by rw [Nat.cast_sub (by omega)]; norm_num
        rw [if_pos ?_]
        · rw [c125, ← EReal.coe_sub, EReal.coe_le_coe_iff]
          show _ ≤ ((b - 1 : ℕ) : ℝ) - 125
          rw [hc]; linarith
        · rw [c125, c1, ← EReal.coe_sub, ← EReal.coe_sub]
          rw [exp2_T b (by omega) (by omega) _ (by show ((b - 1 : ℕ) : ℝ) - 125 - 1 = _; rw [hc]; ring)]
          exact hTb

/-- The scale found by the search is `exp2` of the exponent stated as a maximum. -/
theorem scaleOf_eq (v : EReal) : scaleOf v = Ideal.exp2 (refE v) := by
  unfold scaleOf
  rcases exp_cases v with ⟨h1, h2⟩ | ⟨b, hb1, hb2, h1, h2⟩
  · rw [h1, h2, show IntOp.addi 0#32 127#32 = BitVec.ofNat 32 127 by decide, shl_eq 127 (by omega)]
    exact (exp2_T 127 (by omega) (by omega) 0 (by norm_num)).symm
  · rw [h1, h2, show IntOp.addi (BitVec.ofNat 32 b - 126#32) 127#32 = BitVec.ofNat 32 (b + 1) by
      unfold IntOp.addi; rw [BitVec.ofNat_add]; bv_omega, shl_eq (b + 1) (by omega)]
    exact (exp2_T (b + 1) (by omega) (by omega) _ (by push_cast; ring)).symm

/-- The inverse scale found by the search is `exp2` of minus the exponent stated as a maximum. -/
theorem invOf_eq (v : EReal) : invOf v = Ideal.exp2 (0 - refE v) := by
  unfold invOf
  rcases exp_cases v with ⟨h1, h2⟩ | ⟨b, hb1, hb2, h1, h2⟩
  · rw [h1, h2, show IntOp.subi 127#32 0#32 = BitVec.ofNat 32 127 by decide, shl_eq 127 (by omega), sub_zero]
    exact (exp2_T 127 (by omega) (by omega) 0 (by norm_num)).symm
  · rw [h1, h2, show IntOp.subi 127#32 (BitVec.ofNat 32 b - 126#32) = BitVec.ofNat 32 (253 - b) by
      unfold IntOp.subi; bv_omega, shl_eq (253 - b) (by omega)]
    rw [show (0 : EReal) = ((0 : ℝ) : EReal) from rfl, ← EReal.coe_sub]
    exact (exp2_T (253 - b) (by omega) (by omega) _ (by rw [Nat.cast_sub (by omega)]; push_cast; ring)).symm

/-! ## The backward pass of one token -/

/-- The arguments, by token. -/
structure Inp where
  x : Fin 1536 → Fin 6144 → EReal
  xs : Fin 1536 → Fin 48 → EReal
  w : Fin 576 → Fin 6144 → EReal
  ws : Fin 5 → Fin 48 → EReal
  gain : Fin 512 → EReal
  pos : Fin 1536 → BitVec 32
  dc : Fin 1536 → Fin 512 → EReal
  dk : Fin 1536 → Fin 64 → EReal

variable (I : Inp)

/-- The dequantised token. -/
def xq (n : Fin 1536) (d : Fin 6144) : EReal := I.x n d * I.xs n ⟨d.val / 128, by omega⟩
/-- The dequantised weight. -/
def wq (r : Fin 576) (d : Fin 6144) : EReal := I.w r d * I.ws ⟨r.val / 128, by omega⟩ ⟨d.val / 128, by omega⟩
/-- The latent, recomputed. -/
def cL (n : Fin 1536) (l : Fin 512) : EReal := ∑ d, wq I ⟨l.val, by omega⟩ d * xq I n d
/-- The reciprocal root mean square. -/
def rstd (n : Fin 1536) : EReal :=
  Ideal.rsqrt (Ideal.div (∑ l, cL I n l * cL I n l) (Ideal.ofBits .f32 0x44000000#32) + Ideal.ofBits .f32 0x358637BD#32)
/-- A token's part of the gain's gradient. -/
def prod (n : Fin 1536) (l : Fin 512) : EReal := I.dc n l * cL I n l * rstd I n
/-- The gradient of the latent. -/
def dcg (n : Fin 1536) (l : Fin 512) : EReal :=
  rstd I n * (I.dc n l * I.gain l - cL I n l * (rstd I n * rstd I n) *
    Ideal.div (∑ x, I.dc n x * I.gain x * cL I n x) (Ideal.ofBits .f32 0x44000000#32))
/-- The rotary angle. -/
def ang (n : Fin 1536) (i : Fin 32) : EReal :=
  FloatOps.sitofp (F := Ideal) .f32 (I.pos n) * Ideal.div 1 (Ideal.pow (Ideal.ofBits .f32 0x461C4000#32)
    (Ideal.div (FloatOps.sitofp (F := Ideal) .f32 (BitVec.ofNat 32 i.val) * Ideal.ofBits .f32 0x40000000#32) (Ideal.ofBits .f32 0x42800000#32)))
/-- The rotary backward pass, even rows. -/
def rotE (n : Fin 1536) (i : Fin 32) : EReal :=
  I.dk n ⟨2 * i.val, by omega⟩ * Ideal.cos (ang I n i) + I.dk n ⟨2 * i.val + 1, by omega⟩ * Ideal.sin (ang I n i)
/-- The rotary backward pass, odd rows. -/
def rotO (n : Fin 1536) (i : Fin 32) : EReal :=
  (0 - I.dk n ⟨2 * i.val, by omega⟩) * Ideal.sin (ang I n i) + I.dk n ⟨2 * i.val + 1, by omega⟩ * Ideal.cos (ang I n i)
/-- The rotary backward pass. -/
def rot (n : Fin 1536) (r : Fin 64) : EReal :=
  if r.val % 2 = 0 then rotE I n ⟨r.val / 2, by omega⟩ else rotO I n ⟨r.val / 2, by omega⟩
/-- The gradient to quantise. -/
def grad (n : Fin 1536) (r : Fin 576) : EReal :=
  if h : r.val < 512 then dcg I n ⟨r.val, h⟩ else rot I n ⟨r.val - 512, by omega⟩
/-- The greatest magnitude of a group. -/
def amax (n : Fin 1536) (g : Fin 5) : EReal :=
  if h : g.val < 4 then
    Finset.fold max (Ideal.ofBits .f32 0xFF800000#32) (fun x : Fin 128 => FloatOps.absf (F := Ideal) (φ := .f32) (dcg I n ⟨128 * g.val + x.val, by omega⟩)) Finset.univ
  else Finset.fold max (Ideal.ofBits .f32 0xFF800000#32) (fun x : Fin 64 => FloatOps.absf (F := Ideal) (φ := .f32) (rot I n x)) Finset.univ
/-- What the scale is read from. -/
def vv (n : Fin 1536) (g : Fin 5) : EReal := amax I n g * Ideal.ofBits .f32 0x37924925#32
/-- The scales. -/
def scale (n : Fin 1536) (g : Fin 5) : EReal := scaleOf (vv I n g)
/-- The codes. -/
def code (n : Fin 1536) (r : Fin 576) : EReal :=
  min (Ideal.ofBits .f32 0x47600000#32) (max (Ideal.ofBits .f32 0xC7600000#32) (grad I n r * invOf (vv I n ⟨r.val / 128, by omega⟩)))
/-- The dequantised gradient. -/
def gq (n : Fin 1536) (r : Fin 576) : EReal := code I n r * scale I n ⟨r.val / 128, by omega⟩
/-- The gradient of the token. -/
def dx (n : Fin 1536) (d : Fin 6144) : EReal := ∑ r, gq I n r * wq I r d
/-- The gain's gradient, summed over a block of 128 tokens. -/
def dgain (blk : Fin 6) (b : Fin 2) (l : Fin 512) : EReal := ∑ x : Fin 128, prod I ⟨b.val * 768 + blk.val * 128 + x.val, by omega⟩ l

end Cert.Spec
end
-- ==== Proof.Pays.lean ====
/- The values the kernel stores at a grid point, index by index, in the terms of the token-level statement. -/
module
public import proofs.«01_k».proof.Proof.Gen.KernelIdeal.Skeleton
public import proofs.«01_k».proof.Proof.Spec
public import Idealize.ShloMosaic.Lib.Pointwise
@[expose] public section
set_option maxRecDepth 16384
noncomputable section
namespace Cert.KernelIdeal.Hand
open Cert.KernelIdeal Cert.KernelIdeal.Gen
open Idealize.ShloMosaic Idealize.ShloMosaic.Tactic
open scoped BigOperators

/-! ## Positions -/

/-- A lane of the lower half, of the upper half. -/
abbrev lo (k : Fin 128) : Fin 256 := ⟨k.val, by omega⟩
/-- Token `k` of the block's second half. -/
abbrev hi (k : Fin 128) : Fin 256 := ⟨128 + k.val, by omega⟩
/-- An even rotary row, an odd one. -/
abbrev ev (k : Fin 32) : Fin 64 := ⟨2 * k.val, by omega⟩
/-- An odd rotary row. -/
abbrev od (k : Fin 32) : Fin 64 := ⟨2 * k.val + 1, by omega⟩
/-- Row `k` of group `g`, among the latent's rows and among all. -/
abbrev row (g : Fin 4) (k : Fin 128) : Fin 512 := ⟨128 * g.val + k.val, by omega⟩
/-- Row `k` of group `g`, among all rows. -/
abbrev rowA (g : Fin 4) (k : Fin 128) : Fin 576 := ⟨128 * g.val + k.val, by omega⟩
/-- A latent row among all; a rotary row among all. -/
abbrev top (l : Fin 512) : Fin 576 := ⟨l.val, by omega⟩
/-- A rotary row among all rows. -/
abbrev bot (l : Fin 64) : Fin 576 := ⟨512 + l.val, by omega⟩
/-- A group of the latent among all. -/
abbrev grp (g : Fin 4) : Fin 5 := ⟨g.val, by omega⟩
/-- Column `k` of column block `n`. -/
abbrev col (n : Fin 6) (k : Fin 1024) : Fin 6144 := ⟨1024 * n.val + k.val, by omega⟩

/-! ## The latent and its backward pass -/

variable (I : Spec.Inp) (tok : Fin 256 → Fin 1536)

/-- The product of weights and tokens is the latent. -/
theorem pay363_at (A : FVec Ideal S512x6144 .bf16) (B : FVec Ideal S256x6144 .bf16)
    (hA : ∀ j, A j = Spec.wq I (top (j 0)) (j 1))
    (hB : ∀ j, B j = Spec.xq I (tok (j 0)) (j 1)) (j : S512x256.Idx) :
    k0_pay363 (F := Ideal) A B j = Spec.cL I (tok (j 1)) (j 0) := by
  unfold k0_pay363
  pointwise
  simp only [hA, hB]
  rfl

/-- The gradient of the latent's output, transposed. -/
theorem pay364_at (d : FVec Ideal S256x512 .bf16) (j : S512x256.Idx) : k0_pay364 (F := Ideal) d j = d (ix2 (j 1) (j 0)) := by
  unfold k0_pay364
  pointwise

/-- The gain, spread over the tokens. -/
theorem pay365_at (d : FVec Ideal S1x512 .f32) (j : S512x256.Idx) : k0_pay365 d j = d (ix2 0 (j 0)) := by
  unfold k0_pay365
  pointwise

/-- The reciprocal root mean square of each token. -/
theorem pay366_at (A : FVec Ideal S512x6144 .bf16) (B : FVec Ideal S256x6144 .bf16)
    (h : ∀ j, k0_pay363 (F := Ideal) A B j = Spec.cL I (tok (j 1)) (j 0)) (j : S1x256.Idx) :
    k0_pay366 (F := Ideal) A B j = Spec.rstd I (tok (j 1)) := by
  unfold k0_pay366
  pointwise
  simp only [h]
  rfl

/-- Each token's part of the gain's gradient. -/
theorem pay367_at (A : FVec Ideal S512x6144 .bf16) (B : FVec Ideal S256x6144 .bf16) (d : FVec Ideal S256x512 .bf16)
    (h : ∀ j, k0_pay363 (F := Ideal) A B j = Spec.cL I (tok (j 1)) (j 0)) (hd : ∀ j, d j = I.dc (tok (j 0)) (j 1)) (j : S512x256.Idx) :
    k0_pay367 (F := Ideal) A B d j = Spec.prod I (tok (j 1)) (j 0) := by
  unfold k0_pay367
  pointwise
  rw [pay366_at I tok A B h, h, pay364_at, hd]
  rfl

/-- The sum of those parts over the block's first 128 tokens. -/
theorem pay369_at (A : FVec Ideal S512x6144 .bf16) (B : FVec Ideal S256x6144 .bf16) (d : FVec Ideal S256x512 .bf16)
    (h : ∀ j, k0_pay367 (F := Ideal) A B d j = Spec.prod I (tok (j 1)) (j 0)) (j : S1x1x512.Idx) :
    k0_pay369 (F := Ideal) (k0_pay368 A B d) j = ∑ x : Fin 128, Spec.prod I (tok (lo x)) (j 2) := by
  unfold k0_pay369 k0_pay368
  pointwise
  simp only [h]
  rfl

/-- The sum of those parts over the block's second 128 tokens. -/
theorem pay370_at (v : FVec Ideal S512x256 .f32)
    (h : ∀ j, v j = Spec.prod I (tok (j 1)) (j 0)) (j : S1x1x512.Idx) :
    k0_pay370 v j = ∑ x : Fin 128, Spec.prod I (tok (hi x)) (j 2) := by
  unfold k0_pay370
  pointwise
  simp only [h]
  rfl

/-- The gradient of the latent through its norm. -/
theorem pay371_at (a b c : FVec Ideal S512x256 .f32) (d : FVec Ideal S1x256 .f32)
    (ha : ∀ j, a j = Spec.cL I (tok (j 1)) (j 0)) (hb : ∀ j, b j = I.dc (tok (j 1)) (j 0))
    (hc : ∀ j, c j = I.gain (j 0)) (hd : ∀ j, d j = Spec.rstd I (tok (j 1))) (j : S512x256.Idx) :
    k0_pay371 a b c d j = Spec.dcg I (tok (j 1)) (j 0) := by
  unfold k0_pay371
  pointwise
  simp only [ha, hb, hc, hd]
  rfl

/-! ## The rotary backward pass -/

/-- The cosine of each rotary angle. -/
theorem pay374_at (p : Vec Ideal S1x256 .i32) (hp : ∀ j, p j = I.pos (tok (j 1))) (j : S32x256.Idx) :
    k0_pay374 (F := Ideal) k0_pay372 p j = Ideal.cos (Spec.ang I (tok (j 1)) (j 0)) := by
  unfold k0_pay374 k0_pay373 k0_pay372
  pointwise
  simp only [hp]
  rfl

/-- The sine of each rotary angle. -/
theorem pay375_at (p : Vec Ideal S1x256 .i32) (hp : ∀ j, p j = I.pos (tok (j 1))) (j : S32x256.Idx) :
    k0_pay375 (F := Ideal) k0_pay372 p j = Ideal.sin (Spec.ang I (tok (j 1)) (j 0)) := by
  unfold k0_pay375 k0_pay373 k0_pay372
  pointwise
  simp only [hp]
  rfl

/-- The even rows of the rotary backward pass, first half of the block. -/
theorem pay379_at (p : Vec Ideal S1x256 .i32) (hp : ∀ j, p j = I.pos (tok (j 1))) (a b : FVec Ideal S1x32x128 .f32)
    (ha : ∀ j : S1x32x128.Idx, a j = I.dk (tok (lo (j 2))) (ev (j 1)))
    (hb : ∀ j : S1x32x128.Idx, b j = I.dk (tok (lo (j 2))) (od (j 1)))
    (j : S1x32x128.Idx) :
    k0_pay379 (F := Ideal) k0_pay372 p a b j = Spec.rotE I (tok (lo (j 2))) (j 1) := by
  unfold k0_pay379 k0_pay377 k0_pay378
  pointwise
  rw [pay374_at I tok p hp, pay375_at I tok p hp]
  simp only [ha, hb]
  rfl

/-- The odd rows of the rotary backward pass, first half of the block. -/
theorem pay380_at (p : Vec Ideal S1x256 .i32) (hp : ∀ j, p j = I.pos (tok (j 1))) (a b : FVec Ideal S1x32x128 .f32)
    (ha : ∀ j : S1x32x128.Idx, a j = I.dk (tok (lo (j 2))) (ev (j 1)))
    (hb : ∀ j : S1x32x128.Idx, b j = I.dk (tok (lo (j 2))) (od (j 1)))
    (j : S1x32x128.Idx) :
    k0_pay380 (F := Ideal) k0_pay372 p a b j = Spec.rotO I (tok (lo (j 2))) (j 1) := by
  unfold k0_pay380 k0_pay377 k0_pay378
  pointwise
  rw [pay374_at I tok p hp, pay375_at I tok p hp]
  simp only [ha, hb]
  unfold Spec.rotO
  rw [zero_sub]
  simp only [EReal.neg_mul]
  rfl

/-- The even rows of the rotary backward pass, second half of the block. -/
theorem pay384_at (p : Vec Ideal S1x256 .i32) (hp : ∀ j, p j = I.pos (tok (j 1))) (a b : FVec Ideal S1x32x128 .f32)
    (ha : ∀ j : S1x32x128.Idx, a j = I.dk (tok (hi (j 2))) (ev (j 1)))
    (hb : ∀ j : S1x32x128.Idx, b j = I.dk (tok (hi (j 2))) (od (j 1)))
    (j : S1x32x128.Idx) :
    k0_pay384 (F := Ideal) (k0_pay374 k0_pay372 p) (k0_pay375 k0_pay372 p) a b j = Spec.rotE I (tok (hi (j 2))) (j 1) := by
  unfold k0_pay384 k0_pay382 k0_pay383
  pointwise
  rw [pay374_at I tok p hp, pay375_at I tok p hp]
  simp only [ha, hb]
  rfl

/-- The odd rows of the rotary backward pass, second half of the block. -/
theorem pay385_at (p : Vec Ideal S1x256 .i32) (hp : ∀ j, p j = I.pos (tok (j 1))) (a b : FVec Ideal S1x32x128 .f32)
    (ha : ∀ j : S1x32x128.Idx, a j = I.dk (tok (hi (j 2))) (ev (j 1)))
    (hb : ∀ j : S1x32x128.Idx, b j = I.dk (tok (hi (j 2))) (od (j 1)))
    (j : S1x32x128.Idx) :
    k0_pay385 (F := Ideal) (k0_pay374 k0_pay372 p) (k0_pay375 k0_pay372 p) a b j = Spec.rotO I (tok (hi (j 2))) (j 1) := by
  unfold k0_pay385 k0_pay382 k0_pay383
  pointwise
  rw [pay374_at I tok p hp, pay375_at I tok p hp]
  simp only [ha, hb]
  unfold Spec.rotO
  rw [zero_sub]
  simp only [EReal.neg_mul]
  rfl

/-- The two halves of the rotary backward pass side by side. -/
theorem pay386_at (a b : FVec Ideal S1x64x128 .f32)
    (ha : ∀ j : S1x64x128.Idx, a j = Spec.rot I (tok (lo (j 2))) (j 1))
    (hb : ∀ j : S1x64x128.Idx, b j = Spec.rot I (tok (hi (j 2))) (j 1))
    (j : S64x256.Idx) : k0_pay386 (F := Ideal) a b j = Spec.rot I (tok (j 1)) (j 0) := by
  unfold k0_pay386
  pointwise
  split
  · rw [ha]; rfl
  · next h =>
    have h1 : (j 1).val < 256 := (j 1).isLt
    have e : (⟨128 + ((j 1).val - 128), by omega⟩ : Fin 256) = j 1 := Fin.ext (by show 128 + ((j 1).val - 128) = (j 1).val; omega)
    rw [hb]
    show Spec.rot I (tok ⟨128 + ((j 1).val - 128), _⟩) (j 0) = _
    rw [e]

/-! ## The scale of a group -/

/-- One step of the search, on a row of tokens. -/
def vstep (v : FVec Ideal S1x256 .f32) (b : IVec S1x256 32) (s : BitVec 32) : IVec S1x256 32 :=
  select (cmpf .oge v (bitcastToFloat .f32 (shli (addi b (broadcast S1x256 s)) (broadcast S1x256 23#32)))) (addi b (broadcast S1x256 s)) b

/-- The search's step on a row is the step on each entry. -/
theorem vstep_at (v : FVec Ideal S1x256 .f32) (b : IVec S1x256 32) (s : BitVec 32) (j : S1x256.Idx) :
    vstep v b s j = Spec.stepB (v j) (b j) s := by
  unfold vstep Spec.stepB
  pointwise

/-- The search. -/
def vsearch (v : FVec Ideal S1x256 .f32) : IVec S1x256 32 :=
  vstep v (vstep v (vstep v (vstep v (vstep v (vstep v (vstep v (vstep v (broadcast S1x256 0#32) 128#32) 64#32) 32#32) 16#32) 8#32) 4#32) 2#32) 1#32

/-- The biased exponent. -/
def vbiased (v : FVec Ideal S1x256 .f32) : IVec S1x256 32 :=
  select (cmpi .sge (vsearch v) (broadcast S1x256 240#32)) (broadcast S1x256 255#32) (vsearch v)

/-- The exponent of the scale. -/
def vexp (v : FVec Ideal S1x256 .f32) : IVec S1x256 32 :=
  select (ori (cmpi .eq (vbiased v) (broadcast S1x256 0#32)) (cmpi .eq (vbiased v) (broadcast S1x256 255#32))) (broadcast S1x256 0#32)
    (subi (vbiased v) (broadcast S1x256 126#32))

/-- The exponent of a row is that of each entry. -/
theorem vexp_at (v : FVec Ideal S1x256 .f32) (j : S1x256.Idx) : vexp v j = Spec.expB (v j) := by
  have h1 : vsearch v j = Spec.search (v j) := by
    unfold vsearch Spec.search
    simp only [vstep_at]
    rfl
  have h2 : vbiased v j = Spec.biased (v j) := by
    unfold vbiased Spec.biased
    rw [← h1]
    rfl
  unfold vexp Spec.expB
  rw [← h2]
  rfl

/-- The scale. -/
def vscale (v : FVec Ideal S1x256 .f32) : FVec Ideal S1x256 .f32 :=
  bitcastToFloat .f32 (shli (addi (vexp v) (broadcast S1x256 127#32)) (broadcast S1x256 23#32))

/-- Its inverse. -/
def vinv (v : FVec Ideal S1x256 .f32) : FVec Ideal S1x256 .f32 :=
  bitcastToFloat .f32 (shli (subi (broadcast S1x256 127#32) (vexp v)) (broadcast S1x256 23#32))

/-- The scale of a row is that of each entry. -/
theorem vscale_at (v : FVec Ideal S1x256 .f32) (j : S1x256.Idx) : vscale v j = Spec.scaleOf (v j) := by
  unfold vscale
  pointwise
  rw [vexp_at]
  rfl

/-- The inverse scale of a row is that of each entry. -/
theorem vinv_at (v : FVec Ideal S1x256 .f32) (j : S1x256.Idx) : vinv v j = Spec.invOf (v j) := by
  unfold vinv
  pointwise
  rw [vexp_at]
  rfl

/-! ## The codes of a group of 128 rows -/

/-- The codes. -/
def vcode (A : FVec Ideal S128x256 .f32) (v : FVec Ideal S1x256 .f32) : FVec Ideal S128x256 .fp8e5m2 :=
  truncf .fp8e5m2 (minimumf (broadcast S128x256 (Scalar.ofBits .f32 0x47600000#32)) (maximumf (broadcast S128x256 (Scalar.ofBits .f32 0xC7600000#32))
    (mulf A (broadcastTo S128x256 (vinv v) broadcasts_S1x256_S128x256)))) bitsLt_fp8e5m2_f32

/-- The dequantised codes, tokens first. -/
def vgq (A : FVec Ideal S128x256 .f32) (v : FVec Ideal S1x256 .f32) : FVec Ideal S256x128 .bf16 :=
  shapeCast S256x128 (transpose S256x128 [1, 0] (mulf (extf .bf16 (vcode A v) bitsLt_fp8e5m2_bf16)
    (broadcastTo S128x256 (truncf .bf16 (vscale v) bitsLt_bf16_f32) broadcasts_S1x256_S128x256)) transposes_S128x256_p1_0_S256x128) shapeCasts_S256x128_S256x128

/-- The codes as they are stored. -/
def scode (A : FVec Ideal S128x256 .f32) (v : FVec Ideal S1x256 .f32) : FVec Ideal S1x128x256 .fp8e5m2 :=
  shapeCast S1x128x256 (vcode A v) shapeCasts_S128x256_S1x128x256

/-- The scales as they are stored. -/
def sscale (v : FVec Ideal S1x256 .f32) : FVec Ideal S1x1x256 .f32 :=
  shapeCast S1x1x256 (vscale v) shapeCasts_S1x256_S1x1x256

section Group

variable (g : Fin 4) (A : FVec Ideal S128x256 .f32) (v : FVec Ideal S1x256 .f32)
  (hA : ∀ j : S128x256.Idx, A j = Spec.dcg I (tok (j 1)) (row g (j 0)))
  (hv : ∀ j : S1x256.Idx, v j = Spec.vv I (tok (j 1)) (grp g))

include hA hv

/-- The codes of a group of the latent. -/
theorem vcode_at (j : S128x256.Idx) :
    vcode A v j = Spec.code I (tok (j 1)) (rowA g (j 0)) := by
  have h0 := (j 0).isLt
  simp at h0
  unfold vcode
  pointwise
  rw [vinv_at, hv, hA]
  unfold Spec.code Spec.grad
  rw [dif_pos (by show 128 * g.val + (j 0).val < 512; omega)]
  congr 5
  apply Fin.ext
  show g.val = (128 * g.val + (j 0).val) / 128
  omega

/-- The codes of a group of the latent, as they are stored. -/
theorem scode_at (j : S1x128x256.Idx) :
    scode A v j = Spec.code I (tok (j 2)) (rowA g (j 1)) := by
  unfold scode
  pointwise
  exact vcode_at I tok g A v hA hv _

omit hA in
/-- The scales of a group of the latent, as they are stored. -/
theorem sscale_at (j : S1x1x256.Idx) : sscale v j = Spec.scale I (tok (j 2)) (grp g) := by
  unfold sscale
  pointwise
  rw [vscale_at, hv]
  rfl

/-- The dequantised gradient of a group of the latent, one row a token. -/
theorem vgq_at (j : S256x128.Idx) :
    vgq A v j = Spec.gq I (tok (j 0)) (rowA g (j 1)) := by
  have h0 := (j 1).isLt
  simp at h0
  unfold vgq
  pointwise
  rw [vcode_at I tok g A v hA hv, vscale_at, hv]
  unfold Spec.gq Spec.scale
  congr 3
  apply Fin.ext
  show g.val = (128 * g.val + (j 1).val) / 128
  omega

end Group

/-! ### Each group's stored values are these -/

section Groups

variable (D : FVec Ideal S512x256 .f32)

/-- The codes that the kernel stores for the first group are the quantiser's. -/
theorem scode_0 : k0_pay395 (F := Ideal) (k0_pay393 (k0_pay387 D) (k0_pay388 D) (k0_pay389 D) (k0_pay390 D) 23#32) (FloatOps.ofBits .f32 0xC7600000#32) (FloatOps.ofBits .f32 0x47600000#32) = scode (k0_pay387 D) (k0_pay388 D) := rfl
/-- The scale that the kernel stores for the first group is the quantiser's. -/
theorem sscale_0 : k0_pay396 (F := Ideal) (k0_pay392 (k0_pay388 D) (k0_pay389 D) (k0_pay390 D) 23#32) = sscale (k0_pay388 D) := rfl
/-- The dequantised gradient that the kernel stores for the first group is the quantiser's. -/
theorem vgq_0 : k0_pay397 (F := Ideal) (k0_pay392 (k0_pay388 D) (k0_pay389 D) (k0_pay390 D) 23#32) (k0_pay393 (k0_pay387 D) (k0_pay388 D) (k0_pay389 D) (k0_pay390 D) 23#32) (FloatOps.ofBits .f32 0xC7600000#32) (FloatOps.ofBits .f32 0x47600000#32) = vgq (k0_pay387 D) (k0_pay388 D) := rfl

/-- The codes that the kernel stores for the second group are the quantiser's. -/
theorem scode_1 : k0_pay407 (F := Ideal) (k0_pay398 D) (k0_pay402 (k0_pay399 D) (k0_pay400 D) k0_pay401) k0_pay403 = scode (k0_pay398 D) (k0_pay399 D) := rfl
/-- The scale that the kernel stores for the second group is the quantiser's. -/
theorem sscale_1 : k0_pay408 (F := Ideal) (k0_pay402 (k0_pay399 D) (k0_pay400 D) k0_pay401) k0_pay403 = sscale (k0_pay399 D) := rfl
/-- The dequantised gradient that the kernel stores for the second group is the quantiser's. -/
theorem vgq_1 : k0_pay409 (F := Ideal) (k0_pay398 D) (k0_pay402 (k0_pay399 D) (k0_pay400 D) k0_pay401) k0_pay403 = vgq (k0_pay398 D) (k0_pay399 D) := rfl

/-- The codes that the kernel stores for the third group are the quantiser's. -/
theorem scode_2 (E : FVec Ideal S128x256 .f32) : k0_pay419 (F := Ideal) (FloatOps.ofBits .f32 0x47600000#32) (k0_pay417 E (k0_pay411 E) (k0_pay412 E) (k0_pay413 E) (k0_pay414 E)) = scode E (k0_pay411 E) := rfl
/-- The scale that the kernel stores for the third group is the quantiser's. -/
theorem sscale_2 (E : FVec Ideal S128x256 .f32) : k0_pay420 (F := Ideal) (k0_pay416 (k0_pay411 E) (k0_pay412 E) (k0_pay413 E) (k0_pay414 E)) = sscale (k0_pay411 E) := rfl
/-- The dequantised gradient that the kernel stores for the third group is the quantiser's. -/
theorem vgq_2 (E : FVec Ideal S128x256 .f32) : k0_pay421 (F := Ideal) (k0_pay416 (k0_pay411 E) (k0_pay412 E) (k0_pay413 E) (k0_pay414 E)) (FloatOps.ofBits .f32 0x47600000#32) (k0_pay417 E (k0_pay411 E) (k0_pay412 E) (k0_pay413 E) (k0_pay414 E)) = vgq E (k0_pay411 E) := rfl

/-- The codes that the kernel stores for the fourth group are the quantiser's. -/
theorem scode_3 : k0_pay431 (F := Ideal) (k0_pay422 D) (k0_pay426 (k0_pay423 D) (k0_pay424 D) (k0_pay425 D) 23#32) (k0_pay427 (k0_pay423 D) (k0_pay424 D) (k0_pay425 D) 23#32) 255#32 = scode (k0_pay422 D) (k0_pay423 D) := rfl
/-- The scale that the kernel stores for the fourth group is the quantiser's. -/
theorem sscale_3 : k0_pay432 (F := Ideal) (k0_pay426 (k0_pay423 D) (k0_pay424 D) (k0_pay425 D) 23#32) (k0_pay427 (k0_pay423 D) (k0_pay424 D) (k0_pay425 D) 23#32) 255#32 = sscale (k0_pay423 D) := rfl
/-- The dequantised gradient that the kernel stores for the fourth group is the quantiser's. -/
theorem vgq_3 : k0_pay433 (F := Ideal) (k0_pay422 D) (k0_pay426 (k0_pay423 D) (k0_pay424 D) (k0_pay425 D) 23#32) (k0_pay427 (k0_pay423 D) (k0_pay424 D) (k0_pay425 D) 23#32) 255#32 = vgq (k0_pay422 D) (k0_pay423 D) := rfl

variable (hD : ∀ j, D j = Spec.dcg I (tok (j 1)) (j 0))
include hD

/-- The rows of the first group of the gradient of the latent. -/
theorem rows_0 (j : S128x256.Idx) : k0_pay387 D j = Spec.dcg I (tok (j 1)) (row 0 (j 0)) := by
  unfold k0_pay387
  pointwise
  rw [hD]
  refine congrArg (Spec.dcg I (tok (j 1))) (Fin.ext ?_)
  show (j 0).val = 128 * 0 + (j 0).val
  omega
/-- The rows of the second group of the gradient of the latent. -/
theorem rows_1 (j : S128x256.Idx) : k0_pay398 D j = Spec.dcg I (tok (j 1)) (row 1 (j 0)) := by
  unfold k0_pay398
  pointwise
  rw [hD]
  rfl
/-- The rows of the third group of the gradient of the latent. -/
theorem rows_2 (j : S128x256.Idx) : k0_pay410 D j = Spec.dcg I (tok (j 1)) (row 2 (j 0)) := by
  unfold k0_pay410
  pointwise
  rw [hD]
  rfl
/-- The rows of the fourth group of the gradient of the latent. -/
theorem rows_3 (j : S128x256.Idx) : k0_pay422 D j = Spec.dcg I (tok (j 1)) (row 3 (j 0)) := by
  unfold k0_pay422
  pointwise
  rw [hD]
  rfl

/-- The scaled greatest magnitude of the first group. -/
theorem vmax_0 (j : S1x256.Idx) : k0_pay388 D j = Spec.vv I (tok (j 1)) (grp 0) := by
  unfold k0_pay388
  pointwise
  simp only [rows_0 I tok D hD]
  unfold Spec.vv Spec.amax
  rw [dif_pos (by decide)]
  rfl
/-- The scaled greatest magnitude of the second group. -/
theorem vmax_1 (j : S1x256.Idx) : k0_pay399 D j = Spec.vv I (tok (j 1)) (grp 1) := by
  unfold k0_pay399
  pointwise
  simp only [rows_1 I tok D hD]
  unfold Spec.vv Spec.amax
  rw [dif_pos (by decide)]
  rfl
/-- The scaled greatest magnitude of the third group. -/
theorem vmax_2 (j : S1x256.Idx) : k0_pay411 (k0_pay410 D) j = Spec.vv I (tok (j 1)) (grp 2) := by
  unfold k0_pay411
  pointwise
  simp only [rows_2 I tok D hD]
  unfold Spec.vv Spec.amax
  rw [dif_pos (by decide)]
  rfl
/-- The scaled greatest magnitude of the fourth group. -/
theorem vmax_3 (j : S1x256.Idx) : k0_pay423 D j = Spec.vv I (tok (j 1)) (grp 3) := by
  unfold k0_pay423
  pointwise
  simp only [rows_3 I tok D hD]
  unfold Spec.vv Spec.amax
  rw [dif_pos (by decide)]
  rfl

end Groups

/-! ## The rotary group, of 64 rows -/

/-- The codes. -/
def rcode (A : FVec Ideal S64x256 .f32) (v : FVec Ideal S1x256 .f32) : FVec Ideal S64x256 .fp8e5m2 :=
  truncf .fp8e5m2 (minimumf (broadcast S64x256 (Scalar.ofBits .f32 0x47600000#32)) (maximumf (broadcast S64x256 (Scalar.ofBits .f32 0xC7600000#32))
    (mulf A (broadcastTo S64x256 (vinv v) broadcasts_S1x256_S64x256)))) bitsLt_fp8e5m2_f32

section Rope

variable (R : FVec Ideal S64x256 .f32)

/-- The kernel's rotary codes are the quantiser's. -/
theorem rcode_eq : k0_pay439 (F := Ideal) R (k0_pay435 (k0_pay434 R)) (k0_pay436 (k0_pay434 R)) = rcode R (k0_pay435 (k0_pay434 R)) := rfl
/-- The kernel's rotary scale is the quantiser's. -/
theorem rscale_eq : k0_pay438 (F := Ideal) (k0_pay435 (k0_pay434 R)) (k0_pay436 (k0_pay434 R)) = vscale (k0_pay435 (k0_pay434 R)) := rfl

variable (hR : ∀ j, R j = Spec.rot I (tok (j 1)) (j 0))
include hR

/-- The scaled greatest magnitude of the rotary group. -/
theorem vmax_4 (j : S1x256.Idx) : k0_pay435 (k0_pay434 R) j = Spec.vv I (tok (j 1)) 4 := by
  unfold k0_pay435 k0_pay434
  pointwise
  simp only [hR]
  unfold Spec.vv Spec.amax
  rw [dif_neg (by decide)]
  rfl

/-- The codes of the rotary group. -/
theorem rcode_at (j : S64x256.Idx) : rcode R (k0_pay435 (k0_pay434 R)) j = Spec.code I (tok (j 1)) (bot (j 0)) := by
  have h0 := (j 0).isLt
  simp at h0
  unfold rcode
  pointwise
  rw [vinv_at, vmax_4 I tok R hR, hR]
  unfold Spec.code Spec.grad
  have e1 : (⟨512 + (j 0).val - 512, by omega⟩ : Fin 64) = j 0 := Fin.ext (by show 512 + (j 0).val - 512 = (j 0).val; omega)
  have e2 : (⟨(512 + (j 0).val) / 128, by omega⟩ : Fin 5) = 4 := Fin.ext (by show (512 + (j 0).val) / 128 = 4; omega)
  rw [dif_neg (by show ¬ 512 + (j 0).val < 512; omega), e1, e2]
  rfl

/-- The codes of the rotary group, as they are stored. -/
theorem pay440_at (j : S1x64x256.Idx) : k0_pay440 (F := Ideal) (k0_pay439 R (k0_pay435 (k0_pay434 R)) (k0_pay436 (k0_pay434 R))) j
    = Spec.code I (tok (j 2)) (bot (j 1)) := by
  rw [rcode_eq]
  unfold k0_pay440
  pointwise
  exact rcode_at I tok R hR _

/-- The scale of the rotary group, as it is stored. -/
theorem pay441_at (j : S1x1x256.Idx) : k0_pay441 (F := Ideal) (k0_pay438 (k0_pay435 (k0_pay434 R)) (k0_pay436 (k0_pay434 R))) j
    = Spec.scale I (tok (j 2)) 4 := by
  rw [rscale_eq]
  unfold k0_pay441
  pointwise
  rw [vscale_at, vmax_4 I tok R hR]
  rfl

/-- The dequantised gradient of the rotary group, one row a token. -/
theorem pay442_at (j : S256x64.Idx) : k0_pay442 (F := Ideal) (k0_pay438 (k0_pay435 (k0_pay434 R)) (k0_pay436 (k0_pay434 R))) (k0_pay439 R (k0_pay435 (k0_pay434 R)) (k0_pay436 (k0_pay434 R))) j
    = Spec.gq I (tok (j 0)) (bot (j 1)) := by
  have h0 := (j 1).isLt
  simp at h0
  rw [rcode_eq, rscale_eq]
  unfold k0_pay442
  pointwise
  rw [vscale_at, vmax_4 I tok R hR, rcode_at I tok R hR]
  unfold Spec.gq Spec.scale
  congr 3
  apply Fin.ext
  show 4 = (512 + (j 1).val) / 128
  omega

end Rope

/-! ## The gradient of the tokens -/

/-- The product of the dequantised gradient and a column block of the weights is the input's gradient there. -/
theorem pay443_at (n : Fin 6) (G : FVec Ideal S256x576 .bf16) (W : FVec Ideal S576x1024 .bf16)
    (hG : ∀ j, G j = Spec.gq I (tok (j 0)) (j 1))
    (hW : ∀ j : S576x1024.Idx, W j = Spec.wq I (j 0) (col n (j 1)))
    (j : S256x1024.Idx) :
    k0_pay443 (F := Ideal) G W j = Spec.dx I (tok (j 0)) (col n (j 1)) := by
  unfold k0_pay443
  pointwise
  simp only [hG, hW]
  rfl

end Cert.KernelIdeal.Hand
end
-- ==== Proof.Ops.lean ====
/- The kernel's body in its two cases (the first grid point, which also dequantises the weights; the other points): the
   branch condition and the buffers the body is handed. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 3 % 2 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 6 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x6144 .fp8e4m3 := win0_0.stage (cfg0.slots t 0)
/-- That buffer is a whole one (window 0). -/
abbrev hs0_0 (t : Fin cfg0.N) : (ms0_0 t).IsWhole := hstage0_0 ((cfg0.slots t 0).cast nbuf0_0)
/-- The buffer of window 1 at a point. -/
abbrev ms0_1 (t : Fin cfg0.N) : Memref sig .tc .vmem S1x48x256 .f32 := win0_1.stage (cfg0.slots t 1)
/-- That buffer is a whole one (window 1). -/
abbrev hs0_1 (t : Fin cfg0.N) : (ms0_1 t).IsWhole := hstage0_1 ((cfg0.slots t 1).cast nbuf0_1)
/-- The buffer of window 2 at a point. -/
abbrev ms0_2 (t : Fin cfg0.N) : Memref sig .tc .vmem S576x6144 .fp8e4m3 := win0_2.stage (cfg0.slots t 2)
/-- That buffer is a whole one (window 2). -/
abbrev hs0_2 (t : Fin cfg0.N) : (ms0_2 t).IsWhole := hstage0_2 ((cfg0.slots t 2).cast nbuf0_2)
/-- The buffer of window 3 at a point. -/
abbrev ms0_3 (t : Fin cfg0.N) : Memref sig .tc .smem S5x48 .f32 := win0_3.stage (cfg0.slots t 3)
/-- That buffer is a whole one (window 3). -/
abbrev hs0_3 (t : Fin cfg0.N) : (ms0_3 t).IsWhole := hstage0_3 ((cfg0.slots t 3).cast nbuf0_3)
/-- The buffer of window 4 at a point. -/
abbrev ms0_4 (t : Fin cfg0.N) : Memref sig .tc .vmem S1x512 .f32 := win0_4.stage (cfg0.slots t 4)
/-- That buffer is a whole one (window 4). -/
abbrev hs0_4 (t : Fin cfg0.N) : (ms0_4 t).IsWhole := hstage0_4 ((cfg0.slots t 4).cast nbuf0_4)
/-- The buffer of window 5 at a point. -/
abbrev ms0_5 (t : Fin cfg0.N) : Memref sig .tc .vmem S2x768 .i32 := win0_5.stage (cfg0.slots t 5)
/-- That buffer is a whole one (window 5). -/
abbrev hs0_5 (t : Fin cfg0.N) : (ms0_5 t).IsWhole := hstage0_5 ((cfg0.slots t 5).cast nbuf0_5)
/-- The buffer of window 6 at a point. -/
abbrev ms0_6 (t : Fin cfg0.N) : Memref sig .tc .vmem S256x512 .bf16 := win0_6.stage (cfg0.slots t 6)
/-- That buffer is a whole one (window 6). -/
abbrev hs0_6 (t : Fin cfg0.N) : (ms0_6 t).IsWhole := hstage0_6 ((cfg0.slots t 6).cast nbuf0_6)
/-- The buffer of window 7 at a point. -/
abbrev ms0_7 (t : Fin cfg0.N) : Memref sig .tc .vmem S1x64x256 .bf16 := win0_7.stage (cfg0.slots t 7)
/-- That buffer is a whole one (window 7). -/
abbrev hs0_7 (t : Fin cfg0.N) : (ms0_7 t).IsWhole := hstage0_7 ((cfg0.slots t 7).cast nbuf0_7)
/-- The buffer of window 8 at a point. -/
abbrev ms0_8 (t : Fin cfg0.N) : Memref sig .tc .vmem S256x6144 .bf16 := win0_8.stage (cfg0.slots t 8)
/-- That buffer is a whole one (window 8). -/
abbrev hs0_8 (t : Fin cfg0.N) : (ms0_8 t).IsWhole := hstage0_8 ((cfg0.slots t 8).cast nbuf0_8)
/-- The buffer of window 9 at a point. -/
abbrev ms0_9 (t : Fin cfg0.N) : Memref sig .tc .vmem S6x2x512 .f32 := win0_9.stage (cfg0.slots t 9)
/-- That buffer is a whole one (window 9). -/
abbrev hs0_9 (t : Fin cfg0.N) : (ms0_9 t).IsWhole := hstage0_9 ((cfg0.slots t 9).cast nbuf0_9)
/-- The buffer of window 10 at a point. -/
abbrev ms0_10 (t : Fin cfg0.N) : Memref sig .tc .vmem S1x576x256 .fp8e5m2 := win0_10.stage (cfg0.slots t 10)
/-- That buffer is a whole one (window 10). -/
abbrev hs0_10 (t : Fin cfg0.N) : (ms0_10 t).IsWhole := hstage0_10 ((cfg0.slots t 10).cast nbuf0_10)
/-- The buffer of window 11 at a point. -/
abbrev ms0_11 (t : Fin cfg0.N) : Memref sig .tc .vmem S5x2x768 .f32 := win0_11.stage (cfg0.slots t 11)
/-- That buffer is a whole one (window 11). -/
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S576x6144 .bf16 := Memref.whole cc0_scratch0
/-- Scratch buffer 1, whole. -/
abbrev scM0_1 : Memref sig .tc .vmem S256x6144 .bf16 := Memref.whole cc0_scratch1
/-- Scratch buffer 2, whole. -/
abbrev scM0_2 : Memref sig .tc .vmem S2x64x128 .f32 := Memref.whole cc0_scratch2
/-- Scratch buffer 3, whole. -/
abbrev scM0_3 : Memref sig .tc .vmem S2x64x128 .f32 := Memref.whole cc0_scratch3
/-- Scratch buffer 4, whole. -/
abbrev scM0_4 : Memref sig .tc .vmem S256x576 .bf16 := Memref.whole cc0_scratch4
/-- The scratch `arg14` the kernel carries between points, as a view: what it holds is stated through it. -/
abbrev VS0_0 : View sig .tc .vmem S576x6144 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.BlockBase.lean ====
/- A grid point's blocks of the arguments, and what each of the body's stores leaves at an index of the buffer it writes. -/
module
public import proofs.«01_k».proof.Proof.Pays
public import proofs.«01_k».proof.Proof.Ops
public import Idealize.ShloMosaic.Lib.WholeRead
public import Idealize.ShloMosaic.Lib.Writes
public import Idealize.ShloMosaic.Lib.Pipeline.ReadBack
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open scoped BigOperators

/-- The grid's first coordinate is below 2. -/
theorem i0_lt (i : grid0.Coords) : (i 0).val < 2 := (i 0).isLt
/-- The grid's second coordinate is below 3. -/
theorem i1_lt (i : grid0.Coords) : (i 1).val < 3 := (i 1).isLt

/-- The token at lane `k` of grid point `i`. -/
def tok (i : grid0.Coords) (k : Fin 256) : Fin 1536 :=
  ⟨768 * (i 0).val + 256 * (i 1).val + k.val, by have := i0_lt i; have := i1_lt i; omega⟩

/-- The position of sequence `a`'s token `b` among all the tokens. -/
abbrev posIx (a : Fin 2) (b : Fin 768) : Fin 1536 := ⟨768 * a.val + b.val, by omega⟩
/-- Lane `k` of half `h`. -/
abbrev lane (h : Fin 2) (k : Fin 128) : Fin 256 := ⟨128 * h.val + k.val, by omega⟩

/-- The dequantised weights, as the scratch that is carried holds them. -/
def Wsp (I : Spec.Inp) : Vec Ideal S576x6144 .bf16 := fun j => Spec.wq I (j 0) (j 1)

/-- The blocks of the arguments a grid point is handed. -/
structure At (I : Spec.Inp) (i : grid0.Coords) (x0 : Vec Ideal S256x6144 .fp8e4m3) (x1 : Vec Ideal S1x48x256 .f32)
    (x2 : Vec Ideal S576x6144 .fp8e4m3) (x3 : Vec Ideal S5x48 .f32) (x4 : Vec Ideal S1x512 .f32) (x5 : Vec Ideal S2x768 .i32)
    (x6 : Vec Ideal S256x512 .bf16) (x7 : Vec Ideal S1x64x256 .bf16) : Prop where
  h0 : ∀ j : S256x6144.Idx, x0 j = I.x (tok i (j 0)) (j 1)
  h1 : ∀ j : S1x48x256.Idx, x1 j = I.xs (tok i (j 2)) (j 1)
  h2 : ∀ j : S576x6144.Idx, x2 j = I.w (j 0) (j 1)
  h3 : ∀ j : S5x48.Idx, x3 j = I.ws (j 0) (j 1)
  h4 : ∀ j : S1x512.Idx, x4 j = I.gain (j 1)
  h5 : ∀ j : S2x768.Idx, x5 j = I.pos (posIx (j 0) (j 1))
  h6 : ∀ j : S256x512.Idx, x6 j = I.dc (tok i (j 0)) (j 1)
  h7 : ∀ j : S1x64x256.Idx, x7 j = I.dk (tok i (j 2)) (j 1)

/-! ## What the buffers hold, at an index -/

variable (I : Spec.Inp) (i : grid0.Coords)

/-- The token scratch: the dequantised tokens of the block. -/
def G1 : S256x6144.Idx → EReal := fun y => Spec.xq I (tok i (y 0)) (y 1)
/-- The rotary scratch: the rotary gradient of the block, in halves of 128 tokens. -/
def G2 : S2x64x128.Idx → EReal := fun y => I.dk (tok i (lane (y 0) (y 2))) (y 1)
/-- The rotation scratch: the rotary backward pass of the block, in halves of 128 tokens. -/
def G3 : S2x64x128.Idx → EReal := fun y => Spec.rot I (tok i (lane (y 0) (y 2))) (y 1)
/-- The gradient scratch: the dequantised gradient of the block. -/
def G4 : S256x576.Idx → EReal := fun y => Spec.gq I (tok i (y 0)) (y 1)
/-- The block of the input's gradient. -/
def G8 : S256x6144.Idx → EReal := fun y => Spec.dx I (tok i (y 0)) (y 1)
/-- The gain's gradient, whole. -/
def G9 : S6x2x512.Idx → EReal := fun y => Spec.dgain I (y 0) (y 1) (y 2)
/-- The block of the codes. -/
def G10 : S1x576x256.Idx → EReal := fun y => Spec.code I (tok i (y 2)) (y 1)
/-- The scales, whole. -/
def G11 : S5x2x768.Idx → EReal := fun y => Spec.scale I (posIx (y 1) (y 2)) (y 0)

/-! ## Reading pieces back -/

/-- Reading where pieces of one function cover gives that function. -/
theorem readCov_at {κ : Kind} {sp : Space} {s : Shape} {e : EltTy} (v : View sig κ sp s e) (L : List (View.Piece (Elt Ideal) s e))
    (G : s.Idx → Elt Ideal e) (hL : View.PiecesOf G L) (B : LoadRect s) (j : B.shape.Idx) (hc : ∃ p ∈ L, B.idx j ∈ p.1.set) :
    v.readCov L B j = G (B.idx j) := by
  rw [View.readCov_eq_canon']
  exact View.canon_apply_of_pieces G L hL.mem _ hc

/-- A further piece of the same function. -/
theorem pcons {s : Shape} {e : EltTy} {G : s.Idx → Elt Ideal e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

/-- The coordinate of an entry of a rectangle: its offset and the entry's own. -/
theorem unit_val {s : Shape} (off size : Fin s.rank → Nat) (inb) (x : (Rect.unit (s := s) off size inb).shape.Idx) (a : Fin s.rank) :
    ((Rect.unit (s := s) off size inb).idx x a).val = off a + (x a).val := by
  show off a + 1 * (x a).val = _
  omega

/-- The same with the offset given. -/
theorem unit_at {s : Shape} (off size : Fin s.rank → Nat) (inb) (x : (Rect.unit (s := s) off size inb).shape.Idx) (a : Fin s.rank)
    (n : Fin (s.size a)) (h : off a + (x a).val = n.val) : (Rect.unit (s := s) off size inb).idx x a = n :=
  Fin.ext (by rw [unit_val]; exact h)

/-! ## The dequantised tokens and weights -/

/-- What the body stores of column group `k`. -/
def xpay (k : Nat) (h : S256x48.Slices ![0, k] S256x1) (v5 : Vec Ideal S1x48x256 .f32) (v8 : Vec Ideal S256x128 .fp8e4m3) : FVec Ideal S256x128 .bf16 :=
  shapeCast S256x128 (mulf (extf .bf16 (shapeCast S256x128 v8 shapeCasts_S256x128_S256x128) bitsLt_fp8e4m3_bf16)
    (broadcastTo S256x128 (truncf .bf16 (extractStridedSlice S256x1 ![0, k] (k0_pay302 v5) h) bitsLt_bf16_f32) broadcasts_S256x1_S256x128)) shapeCasts_S256x128_S256x128

/-- The tokens' scales, transposed. -/
theorem k0_pay302_at (v5 : FVec Ideal S1x48x256 .f32) (j : S256x48.Idx) : k0_pay302 (F := Ideal) v5 j = v5 (ix3 0 (j 1) (j 0)) := by
  unfold k0_pay302
  pointwise

/-- A column block of the tokens, dequantised. -/
theorem xpay_at (k : Nat) (h) (hk : k < 48) (v5 : FVec Ideal S1x48x256 .f32) (v8 : FVec Ideal S256x128 .fp8e4m3) (j : S256x128.Idx) :
    xpay k h v5 v8 j = v8 j * v5 (ix3 0 ⟨k, hk⟩ (j 0)) := by
  unfold xpay
  pointwise
  rw [k0_pay302_at]
  congr 2

/-- Where the positions of the block start. -/
theorem off2_eq : k0_off2 i = ![(i 0).val, 256 * (i 1).val] := by
  unfold k0_off2
  generalize i 0 = a
  generalize i 1 = b
  change Fin 2 at a
  change Fin 3 at b
  revert a b
  decide

section Loads

variable {x0 : Vec Ideal S256x6144 .fp8e4m3} {x1 : Vec Ideal S1x48x256 .f32} {x2 : Vec Ideal S576x6144 .fp8e4m3} {x3 : Vec Ideal S5x48 .f32}
  {x4 : Vec Ideal S1x512 .f32} {x5 : Vec Ideal S2x768 .i32} {x6 : Vec Ideal S256x512 .bf16} {x7 : Vec Ideal S1x64x256 .bf16}
  (H : At I i x0 x1 x2 x3 x4 x5 x6 x7)
include H

/-- A column block stored to the token scratch is the dequantised tokens. -/
theorem xb_piece (k : Nat) (hk : k < 48) (h : S256x48.Slices ![0, k] S256x1) (arg2 : Memref sig .tc .vmem S256x6144 .fp8e4m3) (harg2 : arg2.IsWhole)
    (arg3 : Memref sig .tc .vmem S1x48x256 .f32) (harg3 : arg3.IsWhole) (inb) (inb') (x : S256x128.Idx) :
    xpay k h (View.readAt (Elt Ideal) arg3.view (Rect.unit (s := S1x48x256) ![0, 0, 0] S1x48x256.size inb').toLoadRect (harg3.unread x1))
      (View.readAt (Elt Ideal) arg2.view (Rect.unit (s := S256x6144) ![0, 128 * k] S256x128.size inb).toLoadRect (harg2.unread x0)) x
      = G1 I i ((Rect.unit (s := S256x6144) ![0, 128 * k] S256x128.size inb).emb x) := by
  have hx1 : (x 1).val < 128 := (x 1).isLt
  rw [xpay_at k h hk]
  rw [Memref.IsWhole.readAt_unread, Memref.IsWhole.readAt_unread, H.h0, H.h1]
  have e0 : (Rect.unit (s := S256x6144) ![0, 128 * k] S256x128.size inb).idx x 0 = x 0 := unit_at _ _ _ _ _ _ (by show 0 + (x 0).val = _; omega)
  have e2 : (Rect.unit (s := S1x48x256) ![0, 0, 0] S1x48x256.size inb').idx (ix3 0 ⟨k, hk⟩ (x 0)) 2 = x 0 := unit_at _ _ _ _ _ _ (by show 0 + (x 0).val = _; omega)
  have e1 : (Rect.unit (s := S1x48x256) ![0, 0, 0] S1x48x256.size inb').idx (ix3 0 ⟨k, hk⟩ (x 0)) 1 = (⟨k, hk⟩ : Fin 48) := unit_at _ _ _ _ _ _ (by show 0 + k = k; omega)
  have e3 : (⟨((Rect.unit (s := S256x6144) ![0, 128 * k] S256x128.size inb).idx x 1).val / 128, by have h1 : ((Rect.unit (s := S256x6144) ![0, 128 * k] S256x128.size inb).idx x 1).val < 6144 := Fin.isLt _; omega⟩ : Fin 48) = ⟨k, hk⟩ :=
    Fin.ext (by show ((Rect.unit (s := S256x6144) ![0, 128 * k] S256x128.size inb).idx x 1).val / 128 = k; rw [unit_val]; show (128 * k + (x 1).val) / 128 = k; omega)
  show I.x (tok i ((Rect.unit (s := S256x6144) ![0, 128 * k] S256x128.size inb).idx x 0)) _ * I.xs (tok i ((Rect.unit (s := S1x48x256) ![0, 0, 0] S1x48x256.size inb').idx (ix3 0 ⟨k, hk⟩ (x 0)) 2)) ((Rect.unit (s := S1x48x256) ![0, 0, 0] S1x48x256.size inb').idx (ix3 0 ⟨k, hk⟩ (x 0)) 1)
    = Spec.xq I (tok i ((Rect.unit (s := S256x6144) ![0, 128 * k] S256x128.size inb).idx x 0)) ((Rect.unit (s := S256x6144) ![0, 128 * k] S256x128.size inb).idx x 1)
  unfold Spec.xq
  rw [e0, e1, e2, e3]

/-- A block of weights times its scale. -/
theorem k0_pay2_at (s : EReal) (v : FVec Ideal S128x128 .fp8e4m3) (j : S128x128.Idx) : k0_pay2 (F := Ideal) s v j = v j * s := by
  unfold k0_pay2
  pointwise

/-- A block of the rotary weights times its scale. -/
theorem k0_pay8_at (s : EReal) (v : FVec Ideal S64x128 .fp8e4m3) (j : S64x128.Idx) : k0_pay8 (F := Ideal) s v j = v j * s := by
  unfold k0_pay8
  pointwise

/-- The weights' scale that is read for a block. -/
theorem w_at (a b : Nat) (ha : a < 5) (hb : b < 48) (arg5 : Memref sig .tc .smem S5x48 .f32) (harg5 : arg5.IsWhole) (inb') (hf)
    (r : Fin 576) (d : Fin 6144) (hr : r.val / 128 = a) (hd : d.val / 128 = b) :
    I.w r d * (View.readAt (Elt Ideal) arg5.view (Rect.unit (s := S5x48) ![a, b] S1x1.size inb').toLoadRect (harg5.unread x3) (Shape.Idx.first hf)) = Spec.wq I r d := by
  rw [Memref.IsWhole.readAt_unread, H.h3]
  have e0 : (Rect.unit (s := S5x48) ![a, b] S1x1.size inb').idx (Shape.Idx.first hf) 0 = (⟨r.val / 128, by omega⟩ : Fin 5) := unit_at _ _ _ _ _ _ (by show a + 0 = r.val / 128; omega)
  have e1 : (Rect.unit (s := S5x48) ![a, b] S1x1.size inb').idx (Shape.Idx.first hf) 1 = (⟨d.val / 128, by omega⟩ : Fin 48) := unit_at _ _ _ _ _ _ (by show b + 0 = d.val / 128; omega)
  show I.w r d * I.ws ((Rect.unit (s := S5x48) ![a, b] S1x1.size inb').idx (Shape.Idx.first hf) 0) ((Rect.unit (s := S5x48) ![a, b] S1x1.size inb').idx (Shape.Idx.first hf) 1) = _
  rw [e0, e1]
  rfl

/-- A block of the latent's weights stored to the weight scratch is the dequantised weights. -/
theorem w_piece (a b : Nat) (ha : a < 4) (hb : b < 48) (arg4 : Memref sig .tc .vmem S576x6144 .fp8e4m3) (harg4 : arg4.IsWhole)
    (arg5 : Memref sig .tc .smem S5x48 .f32) (harg5 : arg5.IsWhole) (inb) (inb') (hf) (x : S128x128.Idx) :
    k0_pay2 (F := Ideal) (View.readAt (Elt Ideal) arg5.view (Rect.unit (s := S5x48) ![a, b] S1x1.size inb').toLoadRect (harg5.unread x3) (Shape.Idx.first hf))
      (View.readAt (Elt Ideal) arg4.view (Rect.unit (s := S576x6144) ![128 * a, 128 * b] S128x128.size inb).toLoadRect (harg4.unread x2)) x
      = Wsp I ((Rect.unit (s := S576x6144) ![128 * a, 128 * b] S128x128.size inb).emb x) := by
  have hx0 : (x 0).val < 128 := (x 0).isLt
  have hx1 : (x 1).val < 128 := (x 1).isLt
  rw [k0_pay2_at I i H, Memref.IsWhole.readAt_unread, H.h2]
  refine w_at I i H a b (by omega) hb arg5 harg5 inb' hf _ _ ?_ ?_
  · show ((Rect.unit (s := S576x6144) ![128 * a, 128 * b] S128x128.size inb).idx x 0).val / 128 = a
    rw [unit_val]; show (128 * a + (x 0).val) / 128 = a; omega
  · show ((Rect.unit (s := S576x6144) ![128 * a, 128 * b] S128x128.size inb).idx x 1).val / 128 = b
    rw [unit_val]; show (128 * b + (x 1).val) / 128 = b; omega

/-- A block of the rotary weights stored to the weight scratch is the dequantised weights. -/
theorem w_piece64 (b : Nat) (hb : b < 48) (arg4 : Memref sig .tc .vmem S576x6144 .fp8e4m3) (harg4 : arg4.IsWhole)
    (arg5 : Memref sig .tc .smem S5x48 .f32) (harg5 : arg5.IsWhole) (inb) (inb') (hf) (x : S64x128.Idx) :
    k0_pay8 (F := Ideal) (View.readAt (Elt Ideal) arg5.view (Rect.unit (s := S5x48) ![4, b] S1x1.size inb').toLoadRect (harg5.unread x3) (Shape.Idx.first hf))
      (View.readAt (Elt Ideal) arg4.view (Rect.unit (s := S576x6144) ![512, 128 * b] S64x128.size inb).toLoadRect (harg4.unread x2)) x
      = Wsp I ((Rect.unit (s := S576x6144) ![512, 128 * b] S64x128.size inb).emb x) := by
  have hx0 : (x 0).val < 64 := (x 0).isLt
  have hx1 : (x 1).val < 128 := (x 1).isLt
  rw [k0_pay8_at I i H, Memref.IsWhole.readAt_unread, H.h2]
  refine w_at I i H 4 b (by omega) hb arg5 harg5 inb' hf _ _ ?_ ?_
  · show ((Rect.unit (s := S576x6144) ![512, 128 * b] S64x128.size inb).idx x 0).val / 128 = 4
    rw [unit_val]; show (512 + (x 0).val) / 128 = 4; omega
  · show ((Rect.unit (s := S576x6144) ![512, 128 * b] S64x128.size inb).idx x 1).val / 128 = b
    rw [unit_val]; show (128 * b + (x 1).val) / 128 = b; omega

/-! ## The other arguments' loads -/

/-- The gain as the body reads it. -/
theorem gain_at (arg6 : Memref sig .tc .vmem S1x512 .f32) (harg6 : arg6.IsWhole) (inb) (j : S1x512.Idx) :
    View.readAt (Elt Ideal) arg6.view (Rect.unit (s := S1x512) ![0, 0] S1x512.size inb).toLoadRect (harg6.unread x4) j = I.gain (j 1) := by
  rw [Memref.IsWhole.readAt_unread, H.h4]
  exact congrArg I.gain (unit_at _ _ _ _ _ _ (by show 0 + (j 1).val = _; omega))

/-- The gradient of the latent's output as the body reads it. -/
theorem dc_at (arg8 : Memref sig .tc .vmem S256x512 .bf16) (harg8 : arg8.IsWhole) (inb) (j : S256x512.Idx) :
    View.readAt (Elt Ideal) arg8.view (Rect.unit (s := S256x512) ![0, 0] S256x512.size inb).toLoadRect (harg8.unread x6) j = I.dc (tok i (j 0)) (j 1) := by
  rw [Memref.IsWhole.readAt_unread, H.h6]
  exact congr (congrArg (fun k => I.dc (tok i k)) (unit_at _ _ _ _ _ _ (by show 0 + (j 0).val = _; omega))) (unit_at _ _ _ _ _ _ (by show 0 + (j 1).val = _; omega))

/-- The positions as the body reads them. -/
theorem pos_at (arg7 : Memref sig .tc .vmem S2x768 .i32) (harg7 : arg7.IsWhole) (inb) (j : S1x256.Idx) :
    View.readAt (Elt Ideal) arg7.view (Rect.unit (s := S2x768) (k0_off2 i) S1x256.size inb).toLoadRect (harg7.unread x5) j = I.pos (tok i (j 1)) := by
  rw [Memref.IsWhole.readAt_unread, H.h5]
  refine congrArg I.pos (Fin.ext ?_)
  have hj0 : (j 0).val < 1 := (j 0).isLt
  show 768 * ((Rect.unit (s := S2x768) (k0_off2 i) S1x256.size inb).idx j 0).val + ((Rect.unit (s := S2x768) (k0_off2 i) S1x256.size inb).idx j 1).val = 768 * (i 0).val + 256 * (i 1).val + (j 1).val
  have e0 : k0_off2 i 0 = (i 0).val := congrFun (off2_eq i) 0
  have e1 : k0_off2 i 1 = 256 * (i 1).val := congrFun (off2_eq i) 1
  rw [unit_val, unit_val, e0, e1]
  omega

/-! ## The rotary part's stores -/

/-- The rotary gradient's first half, as it is stored to its scratch. -/
theorem dk_piece0 (arg9 : Memref sig .tc .vmem S1x64x256 .bf16) (harg9 : arg9.IsWhole) (inb) (inb') (x : S1x64x128.Idx) :
    k0_pay376 (F := Ideal) (View.readAt (Elt Ideal) arg9.view (Rect.unit (s := S1x64x256) ![0, 0, 0] S1x64x128.size inb').toLoadRect (harg9.unread x7)) x
      = G2 I i ((Rect.unit (s := S2x64x128) ![0, 0, 0] S1x64x128.size inb).emb x) := by
  have hx0 : (x 0).val < 1 := (x 0).isLt
  unfold k0_pay376
  pointwise
  rw [Memref.IsWhole.readAt_unread, H.h7]
  refine congr (congrArg (fun k => I.dk (tok i k)) (Fin.ext ?_)) (Fin.ext ?_)
  · show ((Rect.unit (s := S1x64x256) ![0, 0, 0] S1x64x128.size inb').idx _ 2).val = 128 * ((Rect.unit (s := S2x64x128) ![0, 0, 0] S1x64x128.size inb).idx x 0).val + ((Rect.unit (s := S2x64x128) ![0, 0, 0] S1x64x128.size inb).idx x 2).val
    simp only [unit_val]
    show 0 + (x 2).val = 128 * (0 + (x 0).val) + (0 + (x 2).val)
    omega
  · show ((Rect.unit (s := S1x64x256) ![0, 0, 0] S1x64x128.size inb').idx _ 1).val = ((Rect.unit (s := S2x64x128) ![0, 0, 0] S1x64x128.size inb).idx x 1).val
    simp only [unit_val]

/-- The rotary gradient's second half, as it is stored to its scratch. -/
theorem dk_piece1 (arg9 : Memref sig .tc .vmem S1x64x256 .bf16) (harg9 : arg9.IsWhole) (inb) (inb') (x : S1x64x128.Idx) :
    k0_pay381 (F := Ideal) (View.readAt (Elt Ideal) arg9.view (Rect.unit (s := S1x64x256) ![0, 0, 128] S1x64x128.size inb').toLoadRect (harg9.unread x7)) x
      = G2 I i ((Rect.unit (s := S2x64x128) ![1, 0, 0] S1x64x128.size inb).emb x) := by
  have hx0 : (x 0).val < 1 := (x 0).isLt
  unfold k0_pay381
  pointwise
  rw [Memref.IsWhole.readAt_unread, H.h7]
  refine congr (congrArg (fun k => I.dk (tok i k)) (Fin.ext ?_)) (Fin.ext ?_)
  · show ((Rect.unit (s := S1x64x256) ![0, 0, 128] S1x64x128.size inb').idx _ 2).val = 128 * ((Rect.unit (s := S2x64x128) ![1, 0, 0] S1x64x128.size inb).idx x 0).val + ((Rect.unit (s := S2x64x128) ![1, 0, 0] S1x64x128.size inb).idx x 2).val
    simp only [unit_val]
    show 128 + (x 2).val = 128 * (1 + (x 0).val) + (0 + (x 2).val)
    omega
  · show ((Rect.unit (s := S1x64x256) ![0, 0, 128] S1x64x128.size inb').idx _ 1).val = ((Rect.unit (s := S2x64x128) ![1, 0, 0] S1x64x128.size inb).idx x 1).val
    simp only [unit_val]
    rfl

end Loads

/-- Half `h` (of the lanes), parity `p` (of the rows). -/
abbrev half (h p : Nat) (inb : ∀ a, S1x32x128.size a = 0 ∨ (![h, p, 0] : Fin 3 → Nat) a + (![1, 2, 1] : Fin 3 → Nat) a * (S1x32x128.size a - 1) < S2x64x128.size a) : LoadRect S2x64x128 := { off := ![h, p, 0], size := S1x32x128.size, stride := ![1, 2, 1], inb := inb }

/-- The half in which an entry of a strided rectangle lies. -/
theorem half_val0 (h p : Nat) (inb) (x : S1x32x128.Idx) : ((half h p inb).idx x 0).val = h := by
  have hx0 : (x 0).val < 1 := (x 0).isLt
  show h + 1 * (x 0).val = h
  omega
/-- The row of an entry of a strided rectangle. -/
theorem half_val1 (h p : Nat) (inb) (x : S1x32x128.Idx) : ((half h p inb).idx x 1).val = p + 2 * (x 1).val := rfl
/-- The token of an entry of a strided rectangle. -/
theorem half_val2 (h p : Nat) (inb) (x : S1x32x128.Idx) : ((half h p inb).idx x 2).val = (x 2).val := by
  show 0 + 1 * (x 2).val = _
  omega

/-- A strided rectangle holds the rows of its parity in its half. -/
theorem half_mem (h p : Nat) (inb) (pos) (y : S2x64x128.Idx) (h0 : (y 0).val = h) (h1 : (y 1).val % 2 = p) :
    y ∈ (Rect.mk (half h p inb) pos).set := by
  have hy1 : (y 1).val < 64 := (y 1).isLt
  have hy2 : (y 2).val < 128 := (y 2).isLt
  rw [LoadRect.mem_set]
  intro a
  match a with
  | ⟨0, _⟩ => exact ⟨0, Nat.one_pos, by show (y 0).val = h + 1 * 0; omega⟩
  | ⟨1, _⟩ => exact ⟨(y 1).val / 2, by show (y 1).val / 2 < 32; omega, by show (y 1).val = p + 2 * ((y 1).val / 2); omega⟩
  | ⟨2, _⟩ => exact ⟨(y 2).val, hy2, by show (y 2).val = 0 + 1 * (y 2).val; omega⟩

/-! ## The outputs' stores -/

/-- A group stored to the gradient scratch is the dequantised gradient. -/
theorem g_piece (g : Fin 4) (A : FVec Ideal S128x256 .f32) (v : FVec Ideal S1x256 .f32)
    (hA : ∀ j : S128x256.Idx, A j = Spec.dcg I (tok i (j 1)) (row g (j 0)))
    (hv : ∀ j : S1x256.Idx, v j = Spec.vv I (tok i (j 1)) (grp g)) (inb) (x : S256x128.Idx) :
    vgq A v x = G4 I i ((Rect.unit (s := S256x576) ![0, 128 * g.val] S256x128.size inb).emb x) := by
  rw [vgq_at I (tok i) g A v hA hv]
  refine congr (congrArg (fun k => Spec.gq I (tok i k)) (unit_at _ _ inb x 0 _ ?_).symm) (unit_at _ _ inb x 1 _ ?_).symm
  · show 0 + (x 0).val = _; omega
  · rfl

/-- A group stored to the codes is the stated codes. -/
theorem code_piece (g : Fin 4) (A : FVec Ideal S128x256 .f32) (v : FVec Ideal S1x256 .f32)
    (hA : ∀ j : S128x256.Idx, A j = Spec.dcg I (tok i (j 1)) (row g (j 0)))
    (hv : ∀ j : S1x256.Idx, v j = Spec.vv I (tok i (j 1)) (grp g)) (inb) (x : S1x128x256.Idx) :
    scode A v x = G10 I i ((Rect.unit (s := S1x576x256) ![0, 128 * g.val, 0] S1x128x256.size inb).emb x) := by
  rw [scode_at I (tok i) g A v hA hv]
  refine congr (congrArg (fun k => Spec.code I (tok i k)) (unit_at _ _ inb x 2 _ ?_).symm) (unit_at _ _ inb x 1 _ ?_).symm
  · show 0 + (x 2).val = _; omega
  · rfl

/-- The scales at the part that a group stores. -/
theorem scale_eq (g : Nat) (hg : g < 5) (off : Fin 3 → Nat) (hoff : off = ![g, (i 0).val, 256 * (i 1).val]) (inb) (x : S1x1x256.Idx) :
    G11 I ((Rect.unit (s := S5x2x768) off S1x1x256.size inb).emb x) = Spec.scale I (tok i (x 2)) ⟨g, hg⟩ := by
  subst hoff
  have hx0 : (x 0).val < 1 := (x 0).isLt
  have hx1 : (x 1).val < 1 := (x 1).isLt
  refine congr (congrArg (Spec.scale I) (Fin.ext ?_)) (unit_at _ _ inb x 0 _ ?_)
  · show 768 * ((Rect.unit (s := S5x2x768) ![g, (i 0).val, 256 * (i 1).val] S1x1x256.size inb).idx x 1).val + ((Rect.unit (s := S5x2x768) ![g, (i 0).val, 256 * (i 1).val] S1x1x256.size inb).idx x 2).val = 768 * (i 0).val + 256 * (i 1).val + (x 2).val
    simp only [unit_val]
    show 768 * ((i 0).val + (x 1).val) + (256 * (i 1).val + (x 2).val) = _
    omega
  · show g + (x 0).val = g; omega

/-- A group's scale that is stored is the stated scale. -/
theorem scale_piece (g : Fin 4) (v : FVec Ideal S1x256 .f32)
    (hv : ∀ j : S1x256.Idx, v j = Spec.vv I (tok i (j 1)) (grp g)) (off : Fin 3 → Nat) (hoff : off = ![g.val, (i 0).val, 256 * (i 1).val]) (inb) (x : S1x1x256.Idx) :
    sscale v x = G11 I ((Rect.unit (s := S5x2x768) off S1x1x256.size inb).emb x) := by
  rw [sscale_at I (tok i) g v hv, scale_eq I i g.val (by omega) off hoff]

/-- Where group 0 stores its scale. -/
theorem off3_eq : k0_off3 i = ![0, (i 0).val, 256 * (i 1).val] := by
  unfold k0_off3; generalize i 0 = a; generalize i 1 = b; change Fin 2 at a; change Fin 3 at b; revert a b; decide
/-- Where group 1 stores its scale. -/
theorem off4_eq : k0_off4 i = ![1, (i 0).val, 256 * (i 1).val] := by
  unfold k0_off4; generalize i 0 = a; generalize i 1 = b; change Fin 2 at a; change Fin 3 at b; revert a b; decide
/-- Where group 2 stores its scale. -/
theorem off5_eq : k0_off5 i = ![2, (i 0).val, 256 * (i 1).val] := by
  unfold k0_off5; generalize i 0 = a; generalize i 1 = b; change Fin 2 at a; change Fin 3 at b; revert a b; decide
/-- Where group 3 stores its scale. -/
theorem off6_eq : k0_off6 i = ![3, (i 0).val, 256 * (i 1).val] := by
  unfold k0_off6; generalize i 0 = a; generalize i 1 = b; change Fin 2 at a; change Fin 3 at b; revert a b; decide
/-- Where group 4 stores its scale. -/
theorem off7_eq : k0_off7 i = ![4, (i 0).val, 256 * (i 1).val] := by
  unfold k0_off7; generalize i 0 = a; generalize i 1 = b; change Fin 2 at a; change Fin 3 at b; revert a b; decide
/-- Where the first sum of the gain's gradient is stored. -/
theorem off1_eq0 : k0_off1 i 0#32 = ![2 * (i 1).val + 0, (i 0).val, 0] := by
  unfold k0_off1; generalize i 0 = a; generalize i 1 = b; change Fin 2 at a; change Fin 3 at b; revert a b; decide
/-- Where the second sum of the gain's gradient is stored. -/
theorem off1_eq1 : k0_off1 i 1#32 = ![2 * (i 1).val + 1, (i 0).val, 0] := by
  unfold k0_off1; generalize i 0 = a; generalize i 1 = b; change Fin 2 at a; change Fin 3 at b; revert a b; decide

/-- A sum stored to the gain's gradient is the stated value. -/
theorem gain_piece (s : Nat) (hs : s < 2) (off : Fin 3 → Nat) (hoff : off = ![2 * (i 1).val + s, (i 0).val, 0]) (inb) (x : S1x1x512.Idx) :
    G9 I ((Rect.unit (s := S6x2x512) off S1x1x512.size inb).emb x)
      = ∑ k : Fin 128, Spec.prod I (tok i (lane ⟨s, hs⟩ k)) (x 2) := by
  subst hoff
  have h0 := i0_lt i
  have h1 := i1_lt i
  have hx0 : (x 0).val < 1 := (x 0).isLt
  have hx1 : (x 1).val < 1 := (x 1).isLt
  have e0 : (Rect.unit (s := S6x2x512) ![2 * (i 1).val + s, (i 0).val, 0] S1x1x512.size inb).idx x 0 = (⟨2 * (i 1).val + s, by omega⟩ : Fin 6) :=
    unit_at _ _ inb x 0 _ (by show 2 * (i 1).val + s + (x 0).val = 2 * (i 1).val + s; omega)
  have e1 : (Rect.unit (s := S6x2x512) ![2 * (i 1).val + s, (i 0).val, 0] S1x1x512.size inb).idx x 1 = (⟨(i 0).val, h0⟩ : Fin 2) :=
    unit_at _ _ inb x 1 _ (by show (i 0).val + (x 1).val = (i 0).val; omega)
  have e2 : (Rect.unit (s := S6x2x512) ![2 * (i 1).val + s, (i 0).val, 0] S1x1x512.size inb).idx x 2 = x 2 :=
    unit_at _ _ inb x 2 _ (by show 0 + (x 2).val = (x 2).val; omega)
  show Spec.dgain I ((Rect.unit (s := S6x2x512) ![2 * (i 1).val + s, (i 0).val, 0] S1x1x512.size inb).idx x 0) ((Rect.unit (s := S6x2x512) ![2 * (i 1).val + s, (i 0).val, 0] S1x1x512.size inb).idx x 1) ((Rect.unit (s := S6x2x512) ![2 * (i 1).val + s, (i 0).val, 0] S1x1x512.size inb).idx x 2) = _
  rw [e0, e1, e2]
  unfold Spec.dgain
  refine Finset.sum_congr rfl fun k _ => congrArg (fun n => Spec.prod I n (x 2)) (Fin.ext ?_)
  show (i 0).val * 768 + (2 * (i 1).val + s) * 128 + k.val = 768 * (i 0).val + 256 * (i 1).val + (128 * s + k.val)
  ring

/-- A column block stored to the input's gradient is the stated value. -/
theorem dx_piece (n : Fin 6) (G : FVec Ideal S256x576 .bf16) (W : FVec Ideal S576x1024 .bf16) (hG : ∀ j, G j = G4 I i j)
    (hW : ∀ j : S576x1024.Idx, W j = Spec.wq I (j 0) (col n (j 1))) (inb) (x : S256x1024.Idx) :
    k0_pay443 (F := Ideal) G W x = G8 I i ((Rect.unit (s := S256x6144) ![0, 1024 * n.val] S256x1024.size inb).emb x) := by
  rw [pay443_at I (tok i) n G W hG hW]
  refine congr (congrArg (fun k => Spec.dx I (tok i k)) (unit_at _ _ inb x 0 _ ?_).symm) (unit_at _ _ inb x 1 _ ?_).symm
  · show 0 + (x 0).val = _; omega
  · rfl

/-- A column block of the weights. -/
theorem Wsp_cols (n : Fin 6) (inb) (j : S576x1024.Idx) :
    Wsp I ((Rect.unit (s := S576x6144) ![0, 1024 * n.val] S576x1024.size inb).idx j) = Spec.wq I (j 0) (col n (j 1)) := by
  refine congr (congrArg (Spec.wq I) (unit_at _ _ inb j 0 _ ?_)) (unit_at _ _ inb j 1 _ ?_)
  · show 0 + (j 0).val = _; omega
  · rfl

/-- The rows of the latent. -/
theorem Wsp_rows (inb) (j : S512x6144.Idx) :
    Wsp I ((Rect.unit (s := S576x6144) ![0, 0] S512x6144.size inb).idx j) = Spec.wq I (top (j 0)) (j 1) := by
  refine congr (congrArg (Spec.wq I) (unit_at _ _ inb j 0 _ ?_)) (unit_at _ _ inb j 1 _ ?_)
  · show 0 + (j 0).val = (j 0).val; omega
  · show 0 + (j 1).val = (j 1).val; omega

/-! ## The outputs that are written a part at a time -/

/-- The rows of the gain's gradient that point `i` writes. -/
abbrev on9 (y : S6x2x512.Idx) : Prop := (y 1).val = (i 0).val ∧ (y 0).val / 2 = (i 1).val
/-- The lanes of the scales that point `i` writes. -/
abbrev on11 (y : S5x2x768.Idx) : Prop := (y 1).val = (i 0).val ∧ (y 2).val / 256 = (i 1).val

/-- Which entries of the gain's gradient a store covers. -/
theorem mem9 (s : Nat) (off : Fin 3 → Nat) (hoff : off = ![2 * (i 1).val + s, (i 0).val, 0]) (inb) (y : S6x2x512.Idx) :
    y ∈ (Rect.unit (s := S6x2x512) off S1x1x512.size inb).set ↔ (y 0).val = 2 * (i 1).val + s ∧ (y 1).val = (i 0).val := by
  subst hoff
  have hy2 : (y 2).val < 512 := (y 2).isLt
  rw [Rect.mem_set_unit]
  constructor
  · intro h
    have h0 : 2 * (i 1).val + s ≤ (y 0).val ∧ (y 0).val < 2 * (i 1).val + s + 1 := h 0
    have h1 : (i 0).val ≤ (y 1).val ∧ (y 1).val < (i 0).val + 1 := h 1
    omega
  · rintro ⟨h0, h1⟩ a
    match a with
    | ⟨0, _⟩ => show 2 * (i 1).val + s ≤ (y 0).val ∧ (y 0).val < 2 * (i 1).val + s + 1; omega
    | ⟨1, _⟩ => show (i 0).val ≤ (y 1).val ∧ (y 1).val < (i 0).val + 1; omega
    | ⟨2, _⟩ => show 0 ≤ (y 2).val ∧ (y 2).val < 0 + 512; omega

/-- Which entries of the scales a store covers. -/
theorem mem11 (g : Nat) (off : Fin 3 → Nat) (hoff : off = ![g, (i 0).val, 256 * (i 1).val]) (inb) (y : S5x2x768.Idx) :
    y ∈ (Rect.unit (s := S5x2x768) off S1x1x256.size inb).set ↔ (y 0).val = g ∧ on11 i y := by
  subst hoff
  have hy2 : (y 2).val < 768 := (y 2).isLt
  rw [Rect.mem_set_unit]
  constructor
  · intro h
    have h0 : g ≤ (y 0).val ∧ (y 0).val < g + 1 := h 0
    have h1 : (i 0).val ≤ (y 1).val ∧ (y 1).val < (i 0).val + 1 := h 1
    have h2 : 256 * (i 1).val ≤ (y 2).val ∧ (y 2).val < 256 * (i 1).val + 256 := h 2
    unfold on11
    omega
  · rintro ⟨h0, h1, h2⟩ a
    match a with
    | ⟨0, _⟩ => show g ≤ (y 0).val ∧ (y 0).val < g + 1; omega
    | ⟨1, _⟩ => show (i 0).val ≤ (y 1).val ∧ (y 1).val < (i 0).val + 1; omega
    | ⟨2, _⟩ => show 256 * (i 1).val ≤ (y 2).val ∧ (y 2).val < 256 * (i 1).val + 256; omega

/-! ## The views' index maps, at the buffers' values -/

/-- A half holds all entries with its number. -/
theorem half_mem0 (h : Nat) (inb) (y : S2x64x128.Idx) (h0 : (y 0).val = h) :
    y ∈ (Rect.unit (s := S2x64x128) ![h, 0, 0] S1x64x128.size inb).set := by
  have hy1 : (y 1).val < 64 := (y 1).isLt
  have hy2 : (y 2).val < 128 := (y 2).isLt
  rw [Rect.mem_set_unit]
  intro a
  match a with
  | ⟨0, _⟩ => show h ≤ (y 0).val ∧ (y 0).val < h + 1; omega
  | ⟨1, _⟩ => show 0 ≤ (y 1).val ∧ (y 1).val < 0 + 64; omega
  | ⟨2, _⟩ => show 0 ≤ (y 2).val ∧ (y 2).val < 0 + 128; omega

/-- The rotary scratch on the first half, even rows. -/
theorem G2_half00 (inb) (x : S1x32x128.Idx) : G2 I i ((half 0 0 inb).idx x) = I.dk (tok i (lo (x 2))) (ev (x 1)) := by
  refine congr (congrArg (fun k => I.dk (tok i k)) (Fin.ext ?_)) (Fin.ext ?_)
  · show 128 * ((half 0 0 inb).idx x 0).val + ((half 0 0 inb).idx x 2).val = _
    rw [half_val0, half_val2]
    show 128 * 0 + (x 2).val = (x 2).val
    omega
  · rw [half_val1]
    show 0 + 2 * (x 1).val = 2 * (x 1).val
    omega

/-- The rotation scratch on the first half, even rows. -/
theorem G3_half00 (inb) (x : S1x32x128.Idx) : G3 I i ((half 0 0 inb).idx x) = Spec.rotE I (tok i (lo (x 2))) (x 1) := by
  have hx1 : (x 1).val < 32 := (x 1).isLt
  have e1 : (half 0 0 inb).idx x 1 = (ev (x 1) : Fin 64) := Fin.ext (by
    rw [half_val1]
    show 0 + 2 * (x 1).val = 2 * (x 1).val
    omega)
  have e2 : lane ((half 0 0 inb).idx x 0) ((half 0 0 inb).idx x 2) = lo (x 2) := Fin.ext (by
    show 128 * ((half 0 0 inb).idx x 0).val + ((half 0 0 inb).idx x 2).val = _
    rw [half_val0, half_val2]
    show 128 * 0 + (x 2).val = (x 2).val
    omega)
  show Spec.rot I (tok i (lane ((half 0 0 inb).idx x 0) ((half 0 0 inb).idx x 2))) ((half 0 0 inb).idx x 1) = _
  rw [e1, e2]
  unfold Spec.rot
  rw [if_pos (by show 2 * (x 1).val % 2 = 0; omega)]
  refine congrArg (Spec.rotE I _) (Fin.ext ?_)
  show 2 * (x 1).val / 2 = (x 1).val
  omega

/-- The rotary scratch on the first half, odd rows. -/
theorem G2_half01 (inb) (x : S1x32x128.Idx) : G2 I i ((half 0 1 inb).idx x) = I.dk (tok i (lo (x 2))) (od (x 1)) := by
  refine congr (congrArg (fun k => I.dk (tok i k)) (Fin.ext ?_)) (Fin.ext ?_)
  · show 128 * ((half 0 1 inb).idx x 0).val + ((half 0 1 inb).idx x 2).val = _
    rw [half_val0, half_val2]
    show 128 * 0 + (x 2).val = (x 2).val
    omega
  · rw [half_val1]
    show 1 + 2 * (x 1).val = 2 * (x 1).val + 1
    omega

/-- The rotation scratch on the first half, odd rows. -/
theorem G3_half01 (inb) (x : S1x32x128.Idx) : G3 I i ((half 0 1 inb).idx x) = Spec.rotO I (tok i (lo (x 2))) (x 1) := by
  have hx1 : (x 1).val < 32 := (x 1).isLt
  have e1 : (half 0 1 inb).idx x 1 = (od (x 1) : Fin 64) := Fin.ext (by
    rw [half_val1]
    show 1 + 2 * (x 1).val = 2 * (x 1).val + 1
    omega)
  have e2 : lane ((half 0 1 inb).idx x 0) ((half 0 1 inb).idx x 2) = lo (x 2) := Fin.ext (by
    show 128 * ((half 0 1 inb).idx x 0).val + ((half 0 1 inb).idx x 2).val = _
    rw [half_val0, half_val2]
    show 128 * 0 + (x 2).val = (x 2).val
    omega)
  show Spec.rot I (tok i (lane ((half 0 1 inb).idx x 0) ((half 0 1 inb).idx x 2))) ((half 0 1 inb).idx x 1) = _
  rw [e1, e2]
  unfold Spec.rot
  rw [if_neg (by show ¬ (2 * (x 1).val + 1) % 2 = 0; omega)]
  refine congrArg (Spec.rotO I _) (Fin.ext ?_)
  show (2 * (x 1).val + 1) / 2 = (x 1).val
  omega

/-- The rotary scratch on the second half, even rows. -/
theorem G2_half10 (inb) (x : S1x32x128.Idx) : G2 I i ((half 1 0 inb).idx x) = I.dk (tok i (hi (x 2))) (ev (x 1)) := by
  refine congr (congrArg (fun k => I.dk (tok i k)) (Fin.ext ?_)) (Fin.ext ?_)
  · show 128 * ((half 1 0 inb).idx x 0).val + ((half 1 0 inb).idx x 2).val = _
    rw [half_val0, half_val2]
  · rw [half_val1]
    show 0 + 2 * (x 1).val = 2 * (x 1).val
    omega

/-- The rotation scratch on the second half, even rows. -/
theorem G3_half10 (inb) (x : S1x32x128.Idx) : G3 I i ((half 1 0 inb).idx x) = Spec.rotE I (tok i (hi (x 2))) (x 1) := by
  have hx1 : (x 1).val < 32 := (x 1).isLt
  have e1 : (half 1 0 inb).idx x 1 = (ev (x 1) : Fin 64) := Fin.ext (by
    rw [half_val1]
    show 0 + 2 * (x 1).val = 2 * (x 1).val
    omega)
  have e2 : lane ((half 1 0 inb).idx x 0) ((half 1 0 inb).idx x 2) = hi (x 2) := Fin.ext (by
    show 128 * ((half 1 0 inb).idx x 0).val + ((half 1 0 inb).idx x 2).val = _
    rw [half_val0, half_val2])
  show Spec.rot I (tok i (lane ((half 1 0 inb).idx x 0) ((half 1 0 inb).idx x 2))) ((half 1 0 inb).idx x 1) = _
  rw [e1, e2]
  unfold Spec.rot
  rw [if_pos (by show 2 * (x 1).val % 2 = 0; omega)]
  refine congrArg (Spec.rotE I _) (Fin.ext ?_)
  show 2 * (x 1).val / 2 = (x 1).val
  omega

/-- The rotary scratch on the second half, odd rows. -/
theorem G2_half11 (inb) (x : S1x32x128.Idx) : G2 I i ((half 1 1 inb).idx x) = I.dk (tok i (hi (x 2))) (od (x 1)) := by
  refine congr (congrArg (fun k => I.dk (tok i k)) (Fin.ext ?_)) (Fin.ext ?_)
  · show 128 * ((half 1 1 inb).idx x 0).val + ((half 1 1 inb).idx x 2).val = _
    rw [half_val0, half_val2]
  · rw [half_val1]
    show 1 + 2 * (x 1).val = 2 * (x 1).val + 1
    omega

/-- The rotation scratch on the second half, odd rows. -/
theorem G3_half11 (inb) (x : S1x32x128.Idx) : G3 I i ((half 1 1 inb).idx x) = Spec.rotO I (tok i (hi (x 2))) (x 1) := by
  have hx1 : (x 1).val < 32 := (x 1).isLt
  have e1 : (half 1 1 inb).idx x 1 = (od (x 1) : Fin 64) := Fin.ext (by
    rw [half_val1]
    show 1 + 2 * (x 1).val = 2 * (x 1).val + 1
    omega)
  have e2 : lane ((half 1 1 inb).idx x 0) ((half 1 1 inb).idx x 2) = hi (x 2) := Fin.ext (by
    show 128 * ((half 1 1 inb).idx x 0).val + ((half 1 1 inb).idx x 2).val = _
    rw [half_val0, half_val2])
  show Spec.rot I (tok i (lane ((half 1 1 inb).idx x 0) ((half 1 1 inb).idx x 2))) ((half 1 1 inb).idx x 1) = _
  rw [e1, e2]
  unfold Spec.rot
  rw [if_neg (by show ¬ (2 * (x 1).val + 1) % 2 = 0; omega)]
  refine congrArg (Spec.rotO I _) (Fin.ext ?_)
  show (2 * (x 1).val + 1) / 2 = (x 1).val
  omega

/-- The first half of the rotation scratch. -/
theorem G3_rows0 (inb) (j : S1x64x128.Idx) : G3 I i ((Rect.unit (s := S2x64x128) ![0, 0, 0] S1x64x128.size inb).idx j) = Spec.rot I (tok i (lo (j 2))) (j 1) := by
  have hj0 : (j 0).val < 1 := (j 0).isLt
  refine congr (congrArg (fun k => Spec.rot I (tok i k)) (Fin.ext ?_)) (unit_at _ _ inb j 1 _ ?_)
  · show 128 * ((Rect.unit (s := S2x64x128) ![0, 0, 0] S1x64x128.size inb).idx j 0).val + ((Rect.unit (s := S2x64x128) ![0, 0, 0] S1x64x128.size inb).idx j 2).val = _
    rw [unit_val, unit_val]
    show 128 * (0 + (j 0).val) + (0 + (j 2).val) = (j 2).val
    omega
  · show 0 + (j 1).val = (j 1).val; omega

/-- The second half of the rotation scratch. -/
theorem G3_rows1 (inb) (j : S1x64x128.Idx) : G3 I i ((Rect.unit (s := S2x64x128) ![1, 0, 0] S1x64x128.size inb).idx j) = Spec.rot I (tok i (hi (j 2))) (j 1) := by
  have hj0 : (j 0).val < 1 := (j 0).isLt
  refine congr (congrArg (fun k => Spec.rot I (tok i k)) (Fin.ext ?_)) (unit_at _ _ inb j 1 _ ?_)
  · show 128 * ((Rect.unit (s := S2x64x128) ![1, 0, 0] S1x64x128.size inb).idx j 0).val + ((Rect.unit (s := S2x64x128) ![1, 0, 0] S1x64x128.size inb).idx j 2).val = _
    rw [unit_val, unit_val]
    show 128 * (1 + (j 0).val) + (0 + (j 2).val) = 128 + (j 2).val
    omega
  · show 0 + (j 1).val = (j 1).val; omega

/-- The token scratch, whole. -/
theorem G1_whole (inb) (j : S256x6144.Idx) : G1 I i ((Rect.unit (s := S256x6144) ![0, 0] S256x6144.size inb).toLoadRect.idx j) = Spec.xq I (tok i (j 0)) (j 1) := by
  show Spec.xq I (tok i ((Rect.unit (s := S256x6144) ![0, 0] S256x6144.size inb).idx j 0)) ((Rect.unit (s := S256x6144) ![0, 0] S256x6144.size inb).idx j 1) = _
  refine congr (congrArg (fun k => Spec.xq I (tok i k)) (unit_at _ _ inb j 0 _ ?_)) (unit_at _ _ inb j 1 _ ?_)
  · show 0 + (j 0).val = (j 0).val; omega
  · show 0 + (j 1).val = (j 1).val; omega

/-- The rotary columns of the gradient scratch. -/
theorem G4_bot (inb) (x : S256x64.Idx) : G4 I i ((Rect.unit (s := S256x576) ![0, 512] S256x64.size inb).emb x) = Spec.gq I (tok i (x 0)) (bot (x 1)) := by
  refine congr (congrArg (fun k => Spec.gq I (tok i k)) (unit_at _ _ inb x 0 _ ?_)) (unit_at _ _ inb x 1 _ ?_)
  · show 0 + (x 0).val = (x 0).val; omega
  · rfl

/-- The gradient scratch, whole. -/
theorem G4_whole (inb) (j : S256x576.Idx) : G4 I i ((Rect.unit (s := S256x576) ![0, 0] S256x576.size inb).idx j) = G4 I i j := by
  show Spec.gq I (tok i ((Rect.unit (s := S256x576) ![0, 0] S256x576.size inb).idx j 0)) ((Rect.unit (s := S256x576) ![0, 0] S256x576.size inb).idx j 1) = Spec.gq I (tok i (j 0)) (j 1)
  refine congr (congrArg (fun k => Spec.gq I (tok i k)) (unit_at _ _ inb j 0 _ ?_)) (unit_at _ _ inb j 1 _ ?_)
  · show 0 + (j 0).val = (j 0).val; omega
  · show 0 + (j 1).val = (j 1).val; omega

/-- The rotary rows of the codes. -/
theorem G10_bot (inb) (x : S1x64x256.Idx) : G10 I i ((Rect.unit (s := S1x576x256) ![0, 512, 0] S1x64x256.size inb).emb x) = Spec.code I (tok i (x 2)) (bot (x 1)) := by
  refine congr (congrArg (fun k => Spec.code I (tok i k)) (unit_at _ _ inb x 2 _ ?_)) (unit_at _ _ inb x 1 _ ?_)
  · show 0 + (x 2).val = (x 2).val; omega
  · rfl

/-- The first of the two sums stored to the gain's gradient. -/
theorem gain_piece0 (off : Fin 3 → Nat) (hoff : off = ![2 * (i 1).val + 0, (i 0).val, 0]) (inb) (x : S1x1x512.Idx) :
    G9 I ((Rect.unit (s := S6x2x512) off S1x1x512.size inb).emb x) = ∑ k : Fin 128, Spec.prod I (tok i (lo k)) (x 2) := by
  rw [gain_piece I i 0 (by decide) off hoff]
  refine Finset.sum_congr rfl fun k _ => congrArg (fun n => Spec.prod I (tok i n) (x 2)) (Fin.ext ?_)
  show 128 * 0 + k.val = k.val
  omega

/-- The second of the two sums stored to the gain's gradient. -/
theorem gain_piece1 (off : Fin 3 → Nat) (hoff : off = ![2 * (i 1).val + 1, (i 0).val, 0]) (inb) (x : S1x1x512.Idx) :
    G9 I ((Rect.unit (s := S6x2x512) off S1x1x512.size inb).emb x) = ∑ k : Fin 128, Spec.prod I (tok i (hi k)) (x 2) := by
  rw [gain_piece I i 1 (by decide) off hoff]
  refine Finset.sum_congr rfl fun k _ => congrArg (fun n => Spec.prod I (tok i n) (x 2)) (Fin.ext ?_)
  show 128 * 1 + k.val = 128 + k.val
  omega

/-- The places the rows and the scales are stored at fit the arrays they are stored in. -/
theorem inb9 (s : Nat) (hs : s < 2) (off : Fin 3 → Nat) (hoff : off = ![2 * (i 1).val + s, (i 0).val, 0]) (a : Fin 3) :
    off a + S1x1x512.size a ≤ S6x2x512.size a := by
  subst hoff
  have h0 := i0_lt i
  have h1 := i1_lt i
  match a with
  | ⟨0, _⟩ => show 2 * (i 1).val + s + 1 ≤ 6; omega
  | ⟨1, _⟩ => show (i 0).val + 1 ≤ 2; omega
  | ⟨2, _⟩ => show 0 + 512 ≤ 512; omega

/-- The part of the scales that a group stores lies inside them. -/
theorem inb11 (g : Nat) (hg : g < 5) (off : Fin 3 → Nat) (hoff : off = ![g, (i 0).val, 256 * (i 1).val]) (a : Fin 3) :
    off a + S1x1x256.size a ≤ S5x2x768.size a := by
  subst hoff
  have h0 := i0_lt i
  have h1 := i1_lt i
  match a with
  | ⟨0, _⟩ => show g + 1 ≤ 5; omega
  | ⟨1, _⟩ => show (i 0).val + 1 ≤ 2; omega
  | ⟨2, _⟩ => show 256 * (i 1).val + 256 ≤ 768; omega

/-- The two stores to the gain's gradient together cover this point's part. -/
theorem ex9 (y : S6x2x512.Idx) (p q : View.Piece (Elt Ideal) S6x2x512 .f32)
    (hp : y ∈ p.1.set ↔ (y 0).val = 2 * (i 1).val + 1 ∧ (y 1).val = (i 0).val) (hq : y ∈ q.1.set ↔ (y 0).val = 2 * (i 1).val + 0 ∧ (y 1).val = (i 0).val) :
    (∃ r ∈ [p, q], y ∈ r.1.set) ↔ on9 i y := by
  simp only [List.mem_cons, List.not_mem_nil, or_false, exists_eq_or_imp, exists_eq_left, hp, hq, on9]
  omega

/-- The five stores to the scales together cover this point's part. -/
theorem ex11 (y : S5x2x768.Idx) (p q r s t : View.Piece (Elt Ideal) S5x2x768 .f32)
    (hp : y ∈ p.1.set ↔ (y 0).val = 4 ∧ on11 i y) (hq : y ∈ q.1.set ↔ (y 0).val = 3 ∧ on11 i y) (hr : y ∈ r.1.set ↔ (y 0).val = 2 ∧ on11 i y)
    (hs : y ∈ s.1.set ↔ (y 0).val = 1 ∧ on11 i y) (ht : y ∈ t.1.set ↔ (y 0).val = 0 ∧ on11 i y) :
    (∃ u ∈ [p, q, r, s, t], y ∈ u.1.set) ↔ on11 i y := by
  have hy0 : (y 0).val < 5 := (y 0).isLt
  simp only [List.mem_cons, List.not_mem_nil, or_false, exists_eq_or_imp, exists_eq_left, hp, hq, hr, hs, ht]
  constructor
  · rintro (h | h | h | h | h) <;> exact h.2
  · intro h
    rcases (by omega : (y 0).val = 4 ∨ (y 0).val = 3 ∨ (y 0).val = 2 ∨ (y 0).val = 1 ∨ (y 0).val = 0) with e | e | e | e | e
    · exact Or.inl ⟨e, h⟩
    · exact Or.inr (Or.inl ⟨e, h⟩)
    · exact Or.inr (Or.inr (Or.inl ⟨e, h⟩))
    · exact Or.inr (Or.inr (Or.inr (Or.inl ⟨e, h⟩)))
    · exact Or.inr (Or.inr (Or.inr (Or.inr ⟨e, h⟩)))

end Cert.KernelIdeal.Hand
end
-- ==== Proof.RunNext.lean ====
/- The whole-body run of the kernel at every grid point but the first, every output's stores named. -/
module

public import proofs.«01_k».proof.Proof.Ops

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1612000 in set_option sl_exec.stridedRows true in
/-- What the body's stores leave at a point that is NOT the first, as pieces (last first), in the four outputs' staging buffers,
    from the dequantised weights `xs0` that the first point left. -/
noncomputable def runNext (c : Dev nD) (i : grid0.Coords) (arg2 : Memref sig .tc .vmem S256x6144 .fp8e4m3) (harg2 : arg2.IsWhole) (arg3 : Memref sig .tc .vmem S1x48x256 .f32) (harg3 : arg3.IsWhole) (arg4 : Memref sig .tc .vmem S576x6144 .fp8e4m3) (harg4 : arg4.IsWhole) (arg5 : Memref sig .tc .smem S5x48 .f32) (harg5 : arg5.IsWhole) (arg6 : Memref sig .tc .vmem S1x512 .f32) (harg6 : arg6.IsWhole) (arg7 : Memref sig .tc .vmem S2x768 .i32) (harg7 : arg7.IsWhole) (arg8 : Memref sig .tc .vmem S256x512 .bf16) (harg8 : arg8.IsWhole) (arg9 : Memref sig .tc .vmem S1x64x256 .bf16) (harg9 : arg9.IsWhole) (arg10 : Memref sig .tc .vmem S256x6144 .bf16) (harg10 : arg10.IsWhole) (arg11 : Memref sig .tc .vmem S6x2x512 .f32) (harg11 : arg11.IsWhole) (arg12 : Memref sig .tc .vmem S1x576x256 .fp8e5m2) (harg12 : arg12.IsWhole) (arg13 : Memref sig .tc .vmem S5x2x768 .f32) (harg13 : arg13.IsWhole) (arg14 : Memref sig .tc .vmem S576x6144 .bf16) (harg14 : arg14.IsWhole) (arg15 : Memref sig .tc .vmem S256x6144 .bf16) (harg15 : arg15.IsWhole) (arg16 : Memref sig .tc .vmem S2x64x128 .f32) (harg16 : arg16.IsWhole) (arg17 : Memref sig .tc .vmem S2x64x128 .f32) (harg17 : arg17.IsWhole) (arg18 : Memref sig .tc .vmem S256x576 .bf16) (harg18 : arg18.IsWhole) (hc0 : ¬cond0_0 i)
    (x0 : Vec F S256x6144 .fp8e4m3) (x1 : Vec F S1x48x256 .f32) (x2 : Vec F S576x6144 .fp8e4m3) (x3 : Vec F S5x48 .f32) (x4 : Vec F S1x512 .f32) (x5 : Vec F S2x768 .i32) (x6 : Vec F S256x512 .bf16) (x7 : Vec F S1x64x256 .bf16) (xs0 : Vec F S576x6144 .bf16) (Y9 : Vec F S6x2x512 .f32) (Y11 : Vec F S5x2x768 .f32) :
    { L : List (View.Piece (Elt F) S256x6144 .bf16) × List (View.Piece (Elt F) S6x2x512 .f32) × List (View.Piece (Elt F) S1x576x256 .fp8e5m2) × List (View.Piece (Elt F) S5x2x768 .f32) × List (View.Piece (Elt F) S576x6144 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare Y9 ∗ (∃ d, owns (c : Thread nD τ) arg12 fullShare d) ∗ owns (c : Thread nD τ) arg13 fullShare Y11 ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (arg11.view.loc (c : Thread nD τ) ↦[arg11.view.set]{fullShare} arg11.view.writes (Elt F) (harg11.unread Y9) L.2.1) ∗ (∃ f, arg12.view.loc (c : Thread nD τ) ↦[arg12.view.set]{fullShare} arg12.view.writes (Elt F) f L.2.2.1) ∗ (arg13.view.loc (c : Thread nD τ) ↦[arg13.view.set]{fullShare} arg13.view.writes (Elt F) (harg13.unread Y11) L.2.2.2.1) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_mla_kv_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, []⟩, fun E K => ?run⟩
  case run =>
    simp only [cc0_mla_kv_bwd_eq_skeleton]; unfold cc0_mla_kv_bwd_skel
    simp only [k0_part99_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg13.eq_unread hf11; obtain rfl := harg14.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexact H9
    isplitl [H10]; · iexists _; iexact H10
    isplitl [H11]; · iexact H11
    isplitl [HS0]
    · iexists _; isplitr; · ipureintro; exact harg14.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Hand

end
-- ==== Proof.BlockNext.lean ====
/- What the body's stores hold at every grid point but the first: the run's pieces, buffer by buffer, are blocks of the token-level statement's values. -/
module
public import proofs.«01_k».proof.Proof.BlockBase
public import proofs.«01_k».proof.Proof.RunNext
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open scoped BigOperators

variable (I : Spec.Inp) (i : grid0.Coords)
variable (c : Dev nD) (arg2 : Memref sig .tc .vmem S256x6144 .fp8e4m3) (harg2 : arg2.IsWhole) (arg3 : Memref sig .tc .vmem S1x48x256 .f32) (harg3 : arg3.IsWhole) (arg4 : Memref sig .tc .vmem S576x6144 .fp8e4m3) (harg4 : arg4.IsWhole) (arg5 : Memref sig .tc .smem S5x48 .f32) (harg5 : arg5.IsWhole) (arg6 : Memref sig .tc .vmem S1x512 .f32) (harg6 : arg6.IsWhole) (arg7 : Memref sig .tc .vmem S2x768 .i32) (harg7 : arg7.IsWhole) (arg8 : Memref sig .tc .vmem S256x512 .bf16) (harg8 : arg8.IsWhole) (arg9 : Memref sig .tc .vmem S1x64x256 .bf16) (harg9 : arg9.IsWhole) (arg10 : Memref sig .tc .vmem S256x6144 .bf16) (harg10 : arg10.IsWhole) (arg11 : Memref sig .tc .vmem S6x2x512 .f32) (harg11 : arg11.IsWhole) (arg12 : Memref sig .tc .vmem S1x576x256 .fp8e5m2) (harg12 : arg12.IsWhole) (arg13 : Memref sig .tc .vmem S5x2x768 .f32) (harg13 : arg13.IsWhole) (arg14 : Memref sig .tc .vmem S576x6144 .bf16) (harg14 : arg14.IsWhole) (arg15 : Memref sig .tc .vmem S256x6144 .bf16) (harg15 : arg15.IsWhole) (arg16 : Memref sig .tc .vmem S2x64x128 .f32) (harg16 : arg16.IsWhole) (arg17 : Memref sig .tc .vmem S2x64x128 .f32) (harg17 : arg17.IsWhole) (arg18 : Memref sig .tc .vmem S256x576 .bf16) (harg18 : arg18.IsWhole)
variable (x0 : Vec Ideal S256x6144 .fp8e4m3) (x1 : Vec Ideal S1x48x256 .f32) (x2 : Vec Ideal S576x6144 .fp8e4m3) (x3 : Vec Ideal S5x48 .f32) (x4 : Vec Ideal S1x512 .f32) (x5 : Vec Ideal S2x768 .i32) (x6 : Vec Ideal S256x512 .bf16) (x7 : Vec Ideal S1x64x256 .bf16)
variable (xs0 : Vec Ideal S576x6144 .bf16) (hw : ∀ j, xs0 j = Wsp I j)
variable (H : At I i x0 x1 x2 x3 x4 x5 x6 x7)

include I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H xs0 hw

/-- The pieces of the token scratch hold the dequantised tokens, at a later point. -/
theorem next_xb : View.PiecesOf (G1 I i) (runNext.sl.HS1_48 (F := Ideal) c arg2 harg2 arg3 harg3 x0 x1) := by
  unfold runNext.sl.HS1_48
  refine pcons (fun x => xb_piece I i H 47 (by decide) _ arg2 harg2 arg3 harg3 _ _ x) ?_
  refine pcons (fun x => xb_piece I i H 46 (by decide) _ arg2 harg2 arg3 harg3 _ _ x) ?_
  refine pcons (fun x => xb_piece I i H 45 (by decide) _ arg2 harg2 arg3 harg3 _ _ x) ?_
  refine pcons (fun x => xb_piece I i H 44 (by decide) _ arg2 harg2 arg3 harg3 _ _ x) ?_
  refine pcons (fun x => xb_piece I i H 43 (by decide) _ arg2 harg2 arg3 harg3 _ _ x) ?_
  refine pcons (fun x => xb_piece I i H 42 (by decide) _ arg2 harg2 arg3 harg3 _ _ x) ?_
  refine pcons (fun x => xb_piece I i H 41 (by decide) _ arg2 harg2 arg3 harg3 _ _ x) ?_
  refine pcons (fun x => xb_piece I i H 40 (by decide) _ arg2 harg2 arg3 harg3 _ _ x) ?_
  refine pcons (fun x => xb_piece I i H 39 (by decide) _ arg2 harg2 arg3 harg3 _ _ x) ?_
  refine pcons (fun x => xb_piece I i H 38 (by decide) _ arg2 harg2 arg3 harg3 _ _ x) ?_
  refine pcons (fun x => xb_piece I i H 37 (by decide) _ arg2 harg2 arg3 harg3 _ _ x) ?_
  refine pcons (fun x => xb_piece I i H 36 (by decide) _ arg2 harg2 arg3 harg3 _ _ x) ?_
  refine pcons (fun x => xb_piece I i H 35 (by decide) _ arg2 harg2 arg3 harg3 _ _ x) ?_
  refine pcons (fun x => xb_piece I i H 34 (by decide) _ arg2 harg2 arg3 harg3 _ _ x) ?_
  refine pcons (fun x => xb_piece I i H 33 (by decide) _ arg2 harg2 arg3 harg3 _ _ x) ?_
  refine pcons (fun x => xb_piece I i H 32 (by decide) _ arg2 harg2 arg3 harg3 _ _ x) ?_
  refine pcons (fun x => xb_piece I i H 31 (by decide) _ arg2 harg2 arg3 harg3 _ _ x) ?_
  refine pcons (fun x => xb_piece I i H 30 (by decide) _ arg2 harg2 arg3 harg3 _ _ x) ?_
  refine pcons (fun x => xb_piece I i H 29 (by decide) _ arg2 harg2 arg3 harg3 _ _ x) ?_
  refine pcons (fun x => xb_piece I i H 28 (by decide) _ arg2 harg2 arg3 harg3 _ _ x) ?_
  refine pcons (fun x => xb_piece I i H 27 (by decide) _ arg2 harg2 arg3 harg3 _ _ x) ?_
  refine pcons (fun x => xb_piece I i H 26 (by decide) _ arg2 harg2 arg3 harg3 _ _ x) ?_
  refine pcons (fun x => xb_piece I i H 25 (by decide) _ arg2 harg2 arg3 harg3 _ _ x) ?_
  refine pcons (fun x => xb_piece I i H 24 (by decide) _ arg2 harg2 arg3 harg3 _ _ x) ?_
  refine pcons (fun x => xb_piece I i H 23 (by decide) _ arg2 harg2 arg3 harg3 _ _ x) ?_
  refine pcons (fun x => xb_piece I i H 22 (by decide) _ arg2 harg2 arg3 harg3 _ _ x) ?_
  refine pcons (fun x => xb_piece I i H 21 (by decide) _ arg2 harg2 arg3 harg3 _ _ x) ?_
  refine pcons (fun x => xb_piece I i H 20 (by decide) _ arg2 harg2 arg3 harg3 _ _ x) ?_
  refine pcons (fun x => xb_piece I i H 19 (by decide) _ arg2 harg2 arg3 harg3 _ _ x) ?_
  refine pcons (fun x => xb_piece I i H 18 (by decide) _ arg2 harg2 arg3 harg3 _ _ x) ?_
  refine pcons (fun x => xb_piece I i H 17 (by decide) _ arg2 harg2 arg3 harg3 _ _ x) ?_
  refine pcons (fun x => xb_piece I i H 16 (by decide) _ arg2 harg2 arg3 harg3 _ _ x) ?_
  refine pcons (fun x => xb_piece I i H 15 (by decide) _ arg2 harg2 arg3 harg3 _ _ x) ?_
  refine pcons (fun x => xb_piece I i H 14 (by decide) _ arg2 harg2 arg3 harg3 _ _ x) ?_
  refine pcons (fun x => xb_piece I i H 13 (by decide) _ arg2 harg2 arg3 harg3 _ _ x) ?_
  refine pcons (fun x => xb_piece I i H 12 (by decide) _ arg2 harg2 arg3 harg3 _ _ x) ?_
  refine pcons (fun x => xb_piece I i H 11 (by decide) _ arg2 harg2 arg3 harg3 _ _ x) ?_
  refine pcons (fun x => xb_piece I i H 10 (by decide) _ arg2 harg2 arg3 harg3 _ _ x) ?_
  refine pcons (fun x => xb_piece I i H 9 (by decide) _ arg2 harg2 arg3 harg3 _ _ x) ?_
  refine pcons (fun x => xb_piece I i H 8 (by decide) _ arg2 harg2 arg3 harg3 _ _ x) ?_
  refine pcons (fun x => xb_piece I i H 7 (by decide) _ arg2 harg2 arg3 harg3 _ _ x) ?_
  refine pcons (fun x => xb_piece I i H 6 (by decide) _ arg2 harg2 arg3 harg3 _ _ x) ?_
  refine pcons (fun x => xb_piece I i H 5 (by decide) _ arg2 harg2 arg3 harg3 _ _ x) ?_
  refine pcons (fun x => xb_piece I i H 4 (by decide) _ arg2 harg2 arg3 harg3 _ _ x) ?_
  refine pcons (fun x => xb_piece I i H 3 (by decide) _ arg2 harg2 arg3 harg3 _ _ x) ?_
  refine pcons (fun x => xb_piece I i H 2 (by decide) _ arg2 harg2 arg3 harg3 _ _ x) ?_
  refine pcons (fun x => xb_piece I i H 1 (by decide) _ arg2 harg2 arg3 harg3 _ _ x) ?_
  refine pcons (fun x => xb_piece I i H 0 (by decide) _ arg2 harg2 arg3 harg3 _ _ x) ?_
  exact trivial

/-- The token scratch, read whole, holds the dequantised tokens, at a later point. -/
theorem next_v489 : ∀ j : S256x6144.Idx, (runNext.sl.v489 (F := Ideal) c arg2 harg2 arg3 harg3 arg15 x0 x1) j = Spec.xq I (tok i (j 0)) (j 1) := by
  intro j
  unfold runNext.sl.v489
  rw [readCov_at _ _ (G1 I i) (next_xb I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) _ _ (View.cover_of_tiledBy (runNext.sl.HS1_48 (F := Ideal) c arg2 harg2 arg3 harg3 x0 x1) ![256, 128] (by sl_kernel_rfl) _)]
  exact G1_whole I i _ j

/-- The weight scratch's latent rows, read back, are the dequantised weights, at a later point. -/
theorem next_wtop : ∀ j : S512x6144.Idx, (View.readAt (Elt Ideal) arg14.view (Rect.unit (s := S576x6144) ![0, 0] S512x6144.size inb_S576x6144_S512x6144_0_0).toLoadRect (harg14.unread xs0)) j = Spec.wq I (top (j 0)) (j 1) := by
  intro j
  rw [Memref.IsWhole.readAt_unread, hw]
  exact Wsp_rows I _ j

/-- The weight scratch's columns from 0 on, read back, are the dequantised weights, at a later point. -/
theorem next_wcol0 : ∀ j : S576x1024.Idx, (View.readAt (Elt Ideal) arg14.view (Rect.unit (s := S576x6144) ![0, 0] S576x1024.size inb_S576x6144_S576x1024_0_0).toLoadRect (harg14.unread xs0)) j = Spec.wq I (j 0) (col 0 (j 1)) := by
  intro j
  rw [Memref.IsWhole.readAt_unread, hw]
  exact Wsp_cols I 0 _ j

/-- The weight scratch's columns from 1024 on, read back, are the dequantised weights, at a later point. -/
theorem next_wcol1 : ∀ j : S576x1024.Idx, (View.readAt (Elt Ideal) arg14.view (Rect.unit (s := S576x6144) ![0, 1024] S576x1024.size inb_S576x6144_S576x1024_0_1024).toLoadRect (harg14.unread xs0)) j = Spec.wq I (j 0) (col 1 (j 1)) := by
  intro j
  rw [Memref.IsWhole.readAt_unread, hw]
  exact Wsp_cols I 1 _ j

/-- The weight scratch's columns from 2048 on, read back, are the dequantised weights, at a later point. -/
theorem next_wcol2 : ∀ j : S576x1024.Idx, (View.readAt (Elt Ideal) arg14.view (Rect.unit (s := S576x6144) ![0, 2048] S576x1024.size inb_S576x6144_S576x1024_0_2048).toLoadRect (harg14.unread xs0)) j = Spec.wq I (j 0) (col 2 (j 1)) := by
  intro j
  rw [Memref.IsWhole.readAt_unread, hw]
  exact Wsp_cols I 2 _ j

/-- The weight scratch's columns from 3072 on, read back, are the dequantised weights, at a later point. -/
theorem next_wcol3 : ∀ j : S576x1024.Idx, (View.readAt (Elt Ideal) arg14.view (Rect.unit (s := S576x6144) ![0, 3072] S576x1024.size inb_S576x6144_S576x1024_0_3072).toLoadRect (harg14.unread xs0)) j = Spec.wq I (j 0) (col 3 (j 1)) := by
  intro j
  rw [Memref.IsWhole.readAt_unread, hw]
  exact Wsp_cols I 3 _ j

/-- The weight scratch's columns from 4096 on, read back, are the dequantised weights, at a later point. -/
theorem next_wcol4 : ∀ j : S576x1024.Idx, (View.readAt (Elt Ideal) arg14.view (Rect.unit (s := S576x6144) ![0, 4096] S576x1024.size inb_S576x6144_S576x1024_0_4096).toLoadRect (harg14.unread xs0)) j = Spec.wq I (j 0) (col 4 (j 1)) := by
  intro j
  rw [Memref.IsWhole.readAt_unread, hw]
  exact Wsp_cols I 4 _ j

/-- The weight scratch's columns from 5120 on, read back, are the dequantised weights, at a later point. -/
theorem next_wcol5 : ∀ j : S576x1024.Idx, (View.readAt (Elt Ideal) arg14.view (Rect.unit (s := S576x6144) ![0, 5120] S576x1024.size inb_S576x6144_S576x1024_0_5120).toLoadRect (harg14.unread xs0)) j = Spec.wq I (j 0) (col 5 (j 1)) := by
  intro j
  rw [Memref.IsWhole.readAt_unread, hw]
  exact Wsp_cols I 5 _ j

/-- The first product is the latent of every token of the block, at a later point. -/
theorem next_cl : ∀ j : S512x256.Idx, k0_pay363 (F := Ideal) (View.readAt (Elt Ideal) arg14.view (Rect.unit (s := S576x6144) ![0, 0] S512x6144.size inb_S576x6144_S512x6144_0_0).toLoadRect (harg14.unread xs0)) (runNext.sl.v489 (F := Ideal) c arg2 harg2 arg3 harg3 arg15 x0 x1) j = Spec.cL I (tok i (j 1)) (j 0) := by
  exact fun j => pay363_at I (tok i) _ _ (next_wtop I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_v489 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) j

/-- The block's gradient of the latent is the stated one, at a later point. -/
theorem next_dcg : ∀ j : S512x256.Idx, (runNext.sl.r_19 (F := Ideal) c arg2 harg2 arg3 harg3 arg6 harg6 arg8 harg8 arg14 harg14 arg15 x0 x1 x4 x6 xs0) j = Spec.dcg I (tok i (j 1)) (j 0) := by
  intro j
  unfold runNext.sl.r_19
  exact pay371_at I (tok i) _ _ _ _ (fun j => (next_cl I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) j) (fun j => (pay364_at _ j).trans (dc_at I i H arg8 harg8 _ _))
    (fun j => (pay365_at _ j).trans (gain_at I i H arg6 harg6 _ _)) (fun j => pay366_at I (tok i) _ _ (next_cl I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) j) j

/-- The block's parts of the gain's gradient are the stated ones, at a later point. -/
theorem next_prod : ∀ j : S512x256.Idx, (runNext.sl.r_17 (F := Ideal) c arg2 harg2 arg3 harg3 arg8 harg8 arg14 harg14 arg15 x0 x1 x6 xs0) j = Spec.prod I (tok i (j 1)) (j 0) := by
  intro j
  unfold runNext.sl.r_17
  exact pay367_at I (tok i) _ _ _ (next_cl I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (fun j => dc_at I i H arg8 harg8 _ j) j

/-- The rotary scratch's first half, once stored, holds the rotary gradient, at a later point. -/
theorem next_dk0 : View.PiecesOf (G2 I i) (runNext.sl.HS2_1 (F := Ideal) c arg9 harg9 x7) := by
  unfold runNext.sl.HS2_1
  exact pcons (fun x => dk_piece0 I i H arg9 harg9 (by decide) (by decide) x) trivial

/-- The rotary scratch's both halves, once stored, hold the rotary gradient, at a later point. -/
theorem next_dk1 : View.PiecesOf (G2 I i) (runNext.sl.HS2_2 (F := Ideal) c arg9 harg9 x7) := by
  unfold runNext.sl.HS2_2
  exact pcons (fun x => dk_piece1 I i H arg9 harg9 (by decide) (by decide) x) (next_dk0 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)

/-- The even rows read from the first half of the rotary scratch, at a later point. -/
theorem next_v576 : ∀ j : S1x32x128.Idx, (runNext.sl.v576 (F := Ideal) c arg9 harg9 arg16 x7) j = I.dk (tok i (lo (j 2))) (ev (j 1)) := by
  intro j
  unfold runNext.sl.v576
  refine (readCov_at _ _ (G2 I i) (next_dk0 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (half 0 0 (by decide)) j ?_).trans ?_
  · unfold runNext.sl.HS2_1
    exact ⟨_, List.mem_cons_self, half_mem0 0 (by decide) _ (half_val0 0 0 (by decide) j)⟩
  · exact G2_half00 I i (by decide) j

/-- The odd rows read from the first half of the rotary scratch, at a later point. -/
theorem next_v578 : ∀ j : S1x32x128.Idx, (runNext.sl.v578 (F := Ideal) c arg9 harg9 arg16 x7) j = I.dk (tok i (lo (j 2))) (od (j 1)) := by
  intro j
  unfold runNext.sl.v578
  refine (readCov_at _ _ (G2 I i) (next_dk0 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (half 0 1 (by decide)) j ?_).trans ?_
  · unfold runNext.sl.HS2_1
    exact ⟨_, List.mem_cons_self, half_mem0 0 (by decide) _ (half_val0 0 1 (by decide) j)⟩
  · exact G2_half01 I i (by decide) j

/-- The even rows read from the second half of the rotary scratch, at a later point. -/
theorem next_v604 : ∀ j : S1x32x128.Idx, (runNext.sl.v604 (F := Ideal) c arg9 harg9 arg16 x7) j = I.dk (tok i (hi (j 2))) (ev (j 1)) := by
  intro j
  unfold runNext.sl.v604
  refine (readCov_at _ _ (G2 I i) (next_dk1 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (half 1 0 (by decide)) j ?_).trans ?_
  · unfold runNext.sl.HS2_2
    exact ⟨_, List.mem_cons_self, half_mem0 1 (by decide) _ (half_val0 1 0 (by decide) j)⟩
  · exact G2_half10 I i (by decide) j

/-- The odd rows read from the second half of the rotary scratch, at a later point. -/
theorem next_v606 : ∀ j : S1x32x128.Idx, (runNext.sl.v606 (F := Ideal) c arg9 harg9 arg16 x7) j = I.dk (tok i (hi (j 2))) (od (j 1)) := by
  intro j
  unfold runNext.sl.v606
  refine (readCov_at _ _ (G2 I i) (next_dk1 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (half 1 1 (by decide)) j ?_).trans ?_
  · unfold runNext.sl.HS2_2
    exact ⟨_, List.mem_cons_self, half_mem0 1 (by decide) _ (half_val0 1 1 (by decide) j)⟩
  · exact G2_half11 I i (by decide) j

/-- The pieces of the rotation scratch hold the rotary backward pass, at a later point. -/
theorem next_rotp : View.PiecesOf (G3 I i) (runNext.sl.HS3_4 (F := Ideal) c i arg7 harg7 arg9 harg9 arg16 x5 x7) := by
  unfold runNext.sl.HS3_4
  refine pcons (fun x => (pay385_at I (tok i) _ (fun j => pos_at I i H arg7 harg7 _ j) _ _ (next_v604 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_v606 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) x).trans (G3_half11 I i (by decide) x).symm) ?_
  refine pcons (fun x => (pay384_at I (tok i) _ (fun j => pos_at I i H arg7 harg7 _ j) _ _ (next_v604 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_v606 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) x).trans (G3_half10 I i (by decide) x).symm) ?_
  refine pcons (fun x => (pay380_at I (tok i) _ (fun j => pos_at I i H arg7 harg7 _ j) _ _ (next_v576 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_v578 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) x).trans (G3_half01 I i (by decide) x).symm) ?_
  exact pcons (fun x => (pay379_at I (tok i) _ (fun j => pos_at I i H arg7 harg7 _ j) _ _ (next_v576 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_v578 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) x).trans (G3_half00 I i (by decide) x).symm) trivial

/-- Those pieces cover the whole rotation scratch, at a later point. -/
theorem next_rotc : ∀ y : S2x64x128.Idx, ∃ p ∈ (runNext.sl.HS3_4 (F := Ideal) c i arg7 harg7 arg9 harg9 arg16 x5 x7), y ∈ p.1.set := by
  intro y
  have hy0 : (y 0).val < 2 := (y 0).isLt
  unfold runNext.sl.HS3_4
  rcases Nat.mod_two_eq_zero_or_one (y 1).val with h | h
  · rcases (by omega : (y 0).val = 0 ∨ (y 0).val = 1) with h0 | h0
    · exact ⟨_, List.mem_cons_of_mem _ (List.mem_cons_of_mem _ (List.mem_cons_of_mem _ List.mem_cons_self)), half_mem 0 0 _ _ y h0 h⟩
    · exact ⟨_, List.mem_cons_of_mem _ List.mem_cons_self, half_mem 1 0 _ _ y h0 h⟩
  · rcases (by omega : (y 0).val = 0 ∨ (y 0).val = 1) with h0 | h0
    · exact ⟨_, List.mem_cons_of_mem _ (List.mem_cons_of_mem _ List.mem_cons_self), half_mem 0 1 _ _ y h0 h⟩
    · exact ⟨_, List.mem_cons_self, half_mem 1 1 _ _ y h0 h⟩

/-- The first half of the rotation scratch, read back, is the rotary backward pass, at a later point. -/
theorem next_v626 : ∀ j : S1x64x128.Idx, (runNext.sl.v626 (F := Ideal) c i arg7 harg7 arg9 harg9 arg16 arg17 x5 x7) j = Spec.rot I (tok i (lo (j 2))) (j 1) := by
  intro j
  unfold runNext.sl.v626
  refine (readCov_at _ _ (G3 I i) (next_rotp I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (Rect.unit (s := S2x64x128) ![0, 0, 0] S1x64x128.size (by decide)).toLoadRect j ((next_rotc I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) _)).trans ?_
  exact G3_rows0 I i (by decide) j

/-- The second half of the rotation scratch, read back, is the rotary backward pass, at a later point. -/
theorem next_v628 : ∀ j : S1x64x128.Idx, (runNext.sl.v628 (F := Ideal) c i arg7 harg7 arg9 harg9 arg16 arg17 x5 x7) j = Spec.rot I (tok i (hi (j 2))) (j 1) := by
  intro j
  unfold runNext.sl.v628
  refine (readCov_at _ _ (G3 I i) (next_rotp I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (Rect.unit (s := S2x64x128) ![1, 0, 0] S1x64x128.size (by decide)).toLoadRect j ((next_rotc I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) _)).trans ?_
  exact G3_rows1 I i (by decide) j

/-- The two halves side by side are the rotary backward pass of the block, at a later point. -/
theorem next_rot : ∀ j : S64x256.Idx, (runNext.sl.r_22 (F := Ideal) c i arg7 harg7 arg9 harg9 arg16 arg17 x5 x7) j = Spec.rot I (tok i (j 1)) (j 0) := by
  intro j
  unfold runNext.sl.r_22
  exact pay386_at I (tok i) _ _ (next_v626 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_v628 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) j

/-- The pieces of the gradient scratch hold the dequantised gradient, at a later point. -/
theorem next_g : View.PiecesOf (G4 I i) (runNext.sl.HS4_5 (F := Ideal) c i arg2 harg2 arg3 harg3 arg6 harg6 arg7 harg7 arg8 harg8 arg9 harg9 arg14 harg14 arg15 arg16 arg17 x0 x1 x4 x5 x6 x7 xs0) := by
  unfold runNext.sl.HS4_5
  refine pcons (fun x => (pay442_at I (tok i) (runNext.sl.r_22 (F := Ideal) c i arg7 harg7 arg9 harg9 arg16 arg17 x5 x7) (next_rot I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) x).trans (G4_bot I i (by decide) x).symm) ?_
  refine pcons (fun x => (congrFun (vgq_3 (runNext.sl.r_19 (F := Ideal) c arg2 harg2 arg3 harg3 arg6 harg6 arg8 harg8 arg14 harg14 arg15 x0 x1 x4 x6 xs0)) x).trans (g_piece I i 3 _ _ (rows_3 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (vmax_3 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (by decide) x)) ?_
  refine pcons (fun x => (congrFun (vgq_2 (k0_pay410 (F := Ideal) (runNext.sl.r_19 (F := Ideal) c arg2 harg2 arg3 harg3 arg6 harg6 arg8 harg8 arg14 harg14 arg15 x0 x1 x4 x6 xs0))) x).trans (g_piece I i 2 _ _ (rows_2 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (vmax_2 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (by decide) x)) ?_
  refine pcons (fun x => (congrFun (vgq_1 (runNext.sl.r_19 (F := Ideal) c arg2 harg2 arg3 harg3 arg6 harg6 arg8 harg8 arg14 harg14 arg15 x0 x1 x4 x6 xs0)) x).trans (g_piece I i 1 _ _ (rows_1 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (vmax_1 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (by decide) x)) ?_
  refine pcons (fun x => (congrFun (vgq_0 (runNext.sl.r_19 (F := Ideal) c arg2 harg2 arg3 harg3 arg6 harg6 arg8 harg8 arg14 harg14 arg15 x0 x1 x4 x6 xs0)) x).trans (g_piece I i 0 _ _ (rows_0 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (vmax_0 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (by decide) x)) ?_
  exact trivial

/-- The gradient scratch, read whole, is the dequantised gradient, at a later point. -/
theorem next_v1176 : ∀ j : S256x576.Idx, (runNext.sl.v1176 (F := Ideal) c i arg2 harg2 arg3 harg3 arg6 harg6 arg7 harg7 arg8 harg8 arg9 harg9 arg14 harg14 arg15 arg16 arg17 arg18 x0 x1 x4 x5 x6 x7 xs0) j = G4 I i j := by
  intro j
  unfold runNext.sl.v1176
  rw [readCov_at _ _ (G4 I i) (next_g I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) _ _ (View.cover_of_tiledBy (runNext.sl.HS4_5 (F := Ideal) c i arg2 harg2 arg3 harg3 arg6 harg6 arg7 harg7 arg8 harg8 arg9 harg9 arg14 harg14 arg15 arg16 arg17 x0 x1 x4 x5 x6 x7 xs0) ![256, 64] (by sl_kernel_rfl) _)]
  exact G4_whole I i _ j

/-- The gradient scratch, read whole for the last column block, is the dequantised gradient, at a later point. -/
theorem next_v1201 : ∀ j : S256x576.Idx, (runNext.sl.v1201 (F := Ideal) c i arg2 harg2 arg3 harg3 arg6 harg6 arg7 harg7 arg8 harg8 arg9 harg9 arg14 harg14 arg15 arg16 arg17 arg18 x0 x1 x4 x5 x6 x7 xs0) j = G4 I i j := by
  intro j
  unfold runNext.sl.v1201
  rw [readCov_at _ _ (G4 I i) (next_g I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) _ _ (View.cover_of_tiledBy (runNext.sl.HS4_5 (F := Ideal) c i arg2 harg2 arg3 harg3 arg6 harg6 arg7 harg7 arg8 harg8 arg9 harg9 arg14 harg14 arg15 arg16 arg17 x0 x1 x4 x5 x6 x7 xs0) ![256, 64] (by sl_kernel_rfl) _)]
  exact G4_whole I i _ j

variable (hc0 : ¬cond0_0 i) (Y9 : Vec Ideal S6x2x512 .f32) (Y11 : Vec Ideal S5x2x768 .f32)

/-- What is stored of the input's gradient is the stated value, at a later point. -/
theorem next_out8 : View.PiecesOf (G8 I i) (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.1 := by
  unfold runNext
  dsimp only
  refine pcons (fun x => dx_piece I i 5 _ _ (next_v1201 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_wcol5 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (by decide) x) ?_
  refine pcons (fun x => dx_piece I i 4 _ _ (next_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_wcol4 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (by decide) x) ?_
  refine pcons (fun x => dx_piece I i 3 _ _ (next_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_wcol3 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (by decide) x) ?_
  refine pcons (fun x => dx_piece I i 2 _ _ (next_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_wcol2 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (by decide) x) ?_
  refine pcons (fun x => dx_piece I i 1 _ _ (next_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_wcol1 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (by decide) x) ?_
  refine pcons (fun x => dx_piece I i 0 _ _ (next_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (next_wcol0 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) (by decide) x) ?_
  exact trivial

/-- The stores of the input's gradient cover its block, at a later point. -/
theorem next_cov8 : ∀ y : S256x6144.Idx, ∃ p ∈ (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.1, y ∈ p.1.set := by
  exact View.cover_of_tiledBy (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.1 ![256, 1024] (by sl_kernel_rfl)

/-- What is stored of the gain's gradient is the stated value, at a later point. -/
theorem next_out9 : View.PiecesOf (G9 I) (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.2.1 := by
  unfold runNext
  dsimp only
  refine pcons (fun x => (pay370_at I (tok i) _ (next_prod I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) x).trans (gain_piece1 I i _ (off1_eq1 i) (inb9 i 1 (by decide) _ (off1_eq1 i)) x).symm) ?_
  exact pcons (fun x => (pay369_at I (tok i) _ _ _ (next_prod I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) x).trans (gain_piece0 I i _ (off1_eq0 i) (inb9 i 0 (by decide) _ (off1_eq0 i)) x).symm) trivial

/-- The stores of the gain's gradient fall exactly on this point's part of it, at a later point. -/
theorem next_mem9 : ∀ y : S6x2x512.Idx, (∃ p ∈ (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.2.1, y ∈ p.1.set) ↔ on9 i y := by
  intro y
  unfold runNext
  dsimp only
  exact ex9 i y _ _ (mem9 i 1 _ (off1_eq1 i) (inb9 i 1 (by decide) _ (off1_eq1 i)) y) (mem9 i 0 _ (off1_eq0 i) (inb9 i 0 (by decide) _ (off1_eq0 i)) y)

/-- What is stored of the codes is the stated value, at a later point. -/
theorem next_out10 : View.PiecesOf (G10 I i) (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.2.2.1 := by
  unfold runNext
  dsimp only
  refine pcons (fun x => (pay440_at I (tok i) (runNext.sl.r_22 (F := Ideal) c i arg7 harg7 arg9 harg9 arg16 arg17 x5 x7) (next_rot I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) x).trans (G10_bot I i (by decide) x).symm) ?_
  refine pcons (fun x => (congrFun (scode_3 (runNext.sl.r_19 (F := Ideal) c arg2 harg2 arg3 harg3 arg6 harg6 arg8 harg8 arg14 harg14 arg15 x0 x1 x4 x6 xs0)) x).trans (code_piece I i 3 _ _ (rows_3 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (vmax_3 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (by decide) x)) ?_
  refine pcons (fun x => (congrFun (scode_2 (k0_pay410 (F := Ideal) (runNext.sl.r_19 (F := Ideal) c arg2 harg2 arg3 harg3 arg6 harg6 arg8 harg8 arg14 harg14 arg15 x0 x1 x4 x6 xs0))) x).trans (code_piece I i 2 _ _ (rows_2 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (vmax_2 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (by decide) x)) ?_
  refine pcons (fun x => (congrFun (scode_1 (runNext.sl.r_19 (F := Ideal) c arg2 harg2 arg3 harg3 arg6 harg6 arg8 harg8 arg14 harg14 arg15 x0 x1 x4 x6 xs0)) x).trans (code_piece I i 1 _ _ (rows_1 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (vmax_1 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (by decide) x)) ?_
  refine pcons (fun x => (congrFun (scode_0 (runNext.sl.r_19 (F := Ideal) c arg2 harg2 arg3 harg3 arg6 harg6 arg8 harg8 arg14 harg14 arg15 x0 x1 x4 x6 xs0)) x).trans (code_piece I i 0 _ _ (rows_0 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (vmax_0 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) (by decide) x)) ?_
  exact trivial

/-- The stores of the codes cover their block, at a later point. -/
theorem next_cov10 : ∀ y : S1x576x256.Idx, ∃ p ∈ (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.2.2.1, y ∈ p.1.set := by
  exact View.cover_of_tiledBy (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.2.2.1 ![1, 64, 256] (by sl_kernel_rfl)

/-- What is stored of the scales is the stated value, at a later point. -/
theorem next_out11 : View.PiecesOf (G11 I) (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.2.2.2.1 := by
  unfold runNext
  dsimp only
  refine pcons (fun x => (pay441_at I (tok i) (runNext.sl.r_22 (F := Ideal) c i arg7 harg7 arg9 harg9 arg16 arg17 x5 x7) (next_rot I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H) x).trans (scale_eq I i 4 (by decide) _ (off7_eq i) (inb11 i 4 (by decide) _ (off7_eq i)) x).symm) ?_
  refine pcons (fun x => (congrFun (sscale_3 (runNext.sl.r_19 (F := Ideal) c arg2 harg2 arg3 harg3 arg6 harg6 arg8 harg8 arg14 harg14 arg15 x0 x1 x4 x6 xs0)) x).trans (scale_piece I i 3 _ (vmax_3 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) _ (off6_eq i) (inb11 i 3 (by decide) _ (off6_eq i)) x)) ?_
  refine pcons (fun x => (congrFun (sscale_2 (k0_pay410 (F := Ideal) (runNext.sl.r_19 (F := Ideal) c arg2 harg2 arg3 harg3 arg6 harg6 arg8 harg8 arg14 harg14 arg15 x0 x1 x4 x6 xs0))) x).trans (scale_piece I i 2 _ (vmax_2 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) _ (off5_eq i) (inb11 i 2 (by decide) _ (off5_eq i)) x)) ?_
  refine pcons (fun x => (congrFun (sscale_1 (runNext.sl.r_19 (F := Ideal) c arg2 harg2 arg3 harg3 arg6 harg6 arg8 harg8 arg14 harg14 arg15 x0 x1 x4 x6 xs0)) x).trans (scale_piece I i 1 _ (vmax_1 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) _ (off4_eq i) (inb11 i 1 (by decide) _ (off4_eq i)) x)) ?_
  refine pcons (fun x => (congrFun (sscale_0 (runNext.sl.r_19 (F := Ideal) c arg2 harg2 arg3 harg3 arg6 harg6 arg8 harg8 arg14 harg14 arg15 x0 x1 x4 x6 xs0)) x).trans (scale_piece I i 0 _ (vmax_0 I (tok i) (runNext.sl.r_19 (F := Ideal) c arg2 harg2 arg3 harg3 arg6 harg6 arg8 harg8 arg14 harg14 arg15 x0 x1 x4 x6 xs0) (next_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hw H)) _ (off3_eq i) (inb11 i 0 (by decide) _ (off3_eq i)) x)) ?_
  exact trivial

/-- The stores of the scales fall exactly on this point's part of them, at a later point. -/
theorem next_mem11 : ∀ y : S5x2x768.Idx, (∃ p ∈ (runNext (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 Y9 Y11).1.2.2.2.1, y ∈ p.1.set) ↔ on11 i y := by
  intro y
  unfold runNext
  dsimp only
  refine ex11 i y _ _ _ _ _ ?_ ?_ ?_ ?_ ?_
  · exact mem11 i 4 _ (off7_eq i) (inb11 i 4 (by decide) _ (off7_eq i)) y
  · exact mem11 i 3 _ (off6_eq i) (inb11 i 3 (by decide) _ (off6_eq i)) y
  · exact mem11 i 2 _ (off5_eq i) (inb11 i 2 (by decide) _ (off5_eq i)) y
  · exact mem11 i 1 _ (off4_eq i) (inb11 i 1 (by decide) _ (off4_eq i)) y
  · exact mem11 i 0 _ (off3_eq i) (inb11 i 0 (by decide) _ (off3_eq i)) y

end Cert.KernelIdeal.Hand
end
-- ==== Proof.RunFirst.lean ====
/- The whole-body run of the kernel at the first grid point, every output's stores named. -/
module

public import proofs.«01_k».proof.Proof.RunNext

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6964000 in set_option sl_exec.stridedRows true in
/-- What the body's stores leave at the FIRST point, as pieces (last first): in the four outputs' staging buffers and in the
    dequantised weights, with the proof that the body runs to its return and leaves them so. The two resident outputs start from
    the contents `Y9`, `Y11` and are written in part only. -/
noncomputable def runFirst (c : Dev nD) (i : grid0.Coords) (arg2 : Memref sig .tc .vmem S256x6144 .fp8e4m3) (harg2 : arg2.IsWhole) (arg3 : Memref sig .tc .vmem S1x48x256 .f32) (harg3 : arg3.IsWhole) (arg4 : Memref sig .tc .vmem S576x6144 .fp8e4m3) (harg4 : arg4.IsWhole) (arg5 : Memref sig .tc .smem S5x48 .f32) (harg5 : arg5.IsWhole) (arg6 : Memref sig .tc .vmem S1x512 .f32) (harg6 : arg6.IsWhole) (arg7 : Memref sig .tc .vmem S2x768 .i32) (harg7 : arg7.IsWhole) (arg8 : Memref sig .tc .vmem S256x512 .bf16) (harg8 : arg8.IsWhole) (arg9 : Memref sig .tc .vmem S1x64x256 .bf16) (harg9 : arg9.IsWhole) (arg10 : Memref sig .tc .vmem S256x6144 .bf16) (harg10 : arg10.IsWhole) (arg11 : Memref sig .tc .vmem S6x2x512 .f32) (harg11 : arg11.IsWhole) (arg12 : Memref sig .tc .vmem S1x576x256 .fp8e5m2) (harg12 : arg12.IsWhole) (arg13 : Memref sig .tc .vmem S5x2x768 .f32) (harg13 : arg13.IsWhole) (arg14 : Memref sig .tc .vmem S576x6144 .bf16) (harg14 : arg14.IsWhole) (arg15 : Memref sig .tc .vmem S256x6144 .bf16) (harg15 : arg15.IsWhole) (arg16 : Memref sig .tc .vmem S2x64x128 .f32) (harg16 : arg16.IsWhole) (arg17 : Memref sig .tc .vmem S2x64x128 .f32) (harg17 : arg17.IsWhole) (arg18 : Memref sig .tc .vmem S256x576 .bf16) (harg18 : arg18.IsWhole) (hc0 : cond0_0 i)
    (x0 : Vec F S256x6144 .fp8e4m3) (x1 : Vec F S1x48x256 .f32) (x2 : Vec F S576x6144 .fp8e4m3) (x3 : Vec F S5x48 .f32) (x4 : Vec F S1x512 .f32) (x5 : Vec F S2x768 .i32) (x6 : Vec F S256x512 .bf16) (x7 : Vec F S1x64x256 .bf16) (Y9 : Vec F S6x2x512 .f32) (Y11 : Vec F S5x2x768 .f32) :
    { L : List (View.Piece (Elt F) S256x6144 .bf16) × List (View.Piece (Elt F) S6x2x512 .f32) × List (View.Piece (Elt F) S1x576x256 .fp8e5m2) × List (View.Piece (Elt F) S5x2x768 .f32) × List (View.Piece (Elt F) S576x6144 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare Y9 ∗ (∃ d, owns (c : Thread nD τ) arg12 fullShare d) ∗ owns (c : Thread nD τ) arg13 fullShare Y11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (arg11.view.loc (c : Thread nD τ) ↦[arg11.view.set]{fullShare} arg11.view.writes (Elt F) (harg11.unread Y9) L.2.1) ∗ (∃ f, arg12.view.loc (c : Thread nD τ) ↦[arg12.view.set]{fullShare} arg12.view.writes (Elt F) f L.2.2.1) ∗ (arg13.view.loc (c : Thread nD τ) ↦[arg13.view.set]{fullShare} arg13.view.writes (Elt F) (harg13.unread Y11) L.2.2.2.1) ∗ (∃ f, arg14.view.loc (c : Thread nD τ) ↦[arg14.view.set]{fullShare} arg14.view.writes (Elt F) f L.2.2.2.2) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_mla_kv_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, ?_⟩, fun E K => ?run⟩
  case run =>
    simp only [cc0_mla_kv_bwd_eq_skeleton]; unfold cc0_mla_kv_bwd_skel
    simp only [k0_part99_eq_skeleton, k0_part70_eq_skeleton, k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexact H9
    isplitl [H10]; · iexists _; iexact H10
    isplitl [H11]; · iexact H11
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Hand

end
-- ==== Proof.BlockFirst.lean ====
/- What the body's stores hold at the first grid point: the run's pieces, buffer by buffer, are blocks of the token-level statement's values. -/
module
public import proofs.«01_k».proof.Proof.BlockBase
public import proofs.«01_k».proof.Proof.RunFirst
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open scoped BigOperators

variable (I : Spec.Inp) (i : grid0.Coords)
variable (c : Dev nD) (arg2 : Memref sig .tc .vmem S256x6144 .fp8e4m3) (harg2 : arg2.IsWhole) (arg3 : Memref sig .tc .vmem S1x48x256 .f32) (harg3 : arg3.IsWhole) (arg4 : Memref sig .tc .vmem S576x6144 .fp8e4m3) (harg4 : arg4.IsWhole) (arg5 : Memref sig .tc .smem S5x48 .f32) (harg5 : arg5.IsWhole) (arg6 : Memref sig .tc .vmem S1x512 .f32) (harg6 : arg6.IsWhole) (arg7 : Memref sig .tc .vmem S2x768 .i32) (harg7 : arg7.IsWhole) (arg8 : Memref sig .tc .vmem S256x512 .bf16) (harg8 : arg8.IsWhole) (arg9 : Memref sig .tc .vmem S1x64x256 .bf16) (harg9 : arg9.IsWhole) (arg10 : Memref sig .tc .vmem S256x6144 .bf16) (harg10 : arg10.IsWhole) (arg11 : Memref sig .tc .vmem S6x2x512 .f32) (harg11 : arg11.IsWhole) (arg12 : Memref sig .tc .vmem S1x576x256 .fp8e5m2) (harg12 : arg12.IsWhole) (arg13 : Memref sig .tc .vmem S5x2x768 .f32) (harg13 : arg13.IsWhole) (arg14 : Memref sig .tc .vmem S576x6144 .bf16) (harg14 : arg14.IsWhole) (arg15 : Memref sig .tc .vmem S256x6144 .bf16) (harg15 : arg15.IsWhole) (arg16 : Memref sig .tc .vmem S2x64x128 .f32) (harg16 : arg16.IsWhole) (arg17 : Memref sig .tc .vmem S2x64x128 .f32) (harg17 : arg17.IsWhole) (arg18 : Memref sig .tc .vmem S256x576 .bf16) (harg18 : arg18.IsWhole)
variable (x0 : Vec Ideal S256x6144 .fp8e4m3) (x1 : Vec Ideal S1x48x256 .f32) (x2 : Vec Ideal S576x6144 .fp8e4m3) (x3 : Vec Ideal S5x48 .f32) (x4 : Vec Ideal S1x512 .f32) (x5 : Vec Ideal S2x768 .i32) (x6 : Vec Ideal S256x512 .bf16) (x7 : Vec Ideal S1x64x256 .bf16)

variable (H : At I i x0 x1 x2 x3 x4 x5 x6 x7)

include I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H

/-- The pieces of the token scratch hold the dequantised tokens, at the first point. -/
theorem first_xb : View.PiecesOf (G1 I i) (runFirst.sl.HS1_48 (F := Ideal) c arg2 harg2 arg3 harg3 x0 x1) := by
  unfold runFirst.sl.HS1_48
  refine pcons (fun x => xb_piece I i H 47 (by decide) _ arg2 harg2 arg3 harg3 _ _ x) ?_
  refine pcons (fun x => xb_piece I i H 46 (by decide) _ arg2 harg2 arg3 harg3 _ _ x) ?_
  refine pcons (fun x => xb_piece I i H 45 (by decide) _ arg2 harg2 arg3 harg3 _ _ x) ?_
  refine pcons (fun x => xb_piece I i H 44 (by decide) _ arg2 harg2 arg3 harg3 _ _ x) ?_
  refine pcons (fun x => xb_piece I i H 43 (by decide) _ arg2 harg2 arg3 harg3 _ _ x) ?_
  refine pcons (fun x => xb_piece I i H 42 (by decide) _ arg2 harg2 arg3 harg3 _ _ x) ?_
  refine pcons (fun x => xb_piece I i H 41 (by decide) _ arg2 harg2 arg3 harg3 _ _ x) ?_
  refine pcons (fun x => xb_piece I i H 40 (by decide) _ arg2 harg2 arg3 harg3 _ _ x) ?_
  refine pcons (fun x => xb_piece I i H 39 (by decide) _ arg2 harg2 arg3 harg3 _ _ x) ?_
  refine pcons (fun x => xb_piece I i H 38 (by decide) _ arg2 harg2 arg3 harg3 _ _ x) ?_
  refine pcons (fun x => xb_piece I i H 37 (by decide) _ arg2 harg2 arg3 harg3 _ _ x) ?_
  refine pcons (fun x => xb_piece I i H 36 (by decide) _ arg2 harg2 arg3 harg3 _ _ x) ?_
  refine pcons (fun x => xb_piece I i H 35 (by decide) _ arg2 harg2 arg3 harg3 _ _ x) ?_
  refine pcons (fun x => xb_piece I i H 34 (by decide) _ arg2 harg2 arg3 harg3 _ _ x) ?_
  refine pcons (fun x => xb_piece I i H 33 (by decide) _ arg2 harg2 arg3 harg3 _ _ x) ?_
  refine pcons (fun x => xb_piece I i H 32 (by decide) _ arg2 harg2 arg3 harg3 _ _ x) ?_
  refine pcons (fun x => xb_piece I i H 31 (by decide) _ arg2 harg2 arg3 harg3 _ _ x) ?_
  refine pcons (fun x => xb_piece I i H 30 (by decide) _ arg2 harg2 arg3 harg3 _ _ x) ?_
  refine pcons (fun x => xb_piece I i H 29 (by decide) _ arg2 harg2 arg3 harg3 _ _ x) ?_
  refine pcons (fun x => xb_piece I i H 28 (by decide) _ arg2 harg2 arg3 harg3 _ _ x) ?_
  refine pcons (fun x => xb_piece I i H 27 (by decide) _ arg2 harg2 arg3 harg3 _ _ x) ?_
  refine pcons (fun x => xb_piece I i H 26 (by decide) _ arg2 harg2 arg3 harg3 _ _ x) ?_
  refine pcons (fun x => xb_piece I i H 25 (by decide) _ arg2 harg2 arg3 harg3 _ _ x) ?_
  refine pcons (fun x => xb_piece I i H 24 (by decide) _ arg2 harg2 arg3 harg3 _ _ x) ?_
  refine pcons (fun x => xb_piece I i H 23 (by decide) _ arg2 harg2 arg3 harg3 _ _ x) ?_
  refine pcons (fun x => xb_piece I i H 22 (by decide) _ arg2 harg2 arg3 harg3 _ _ x) ?_
  refine pcons (fun x => xb_piece I i H 21 (by decide) _ arg2 harg2 arg3 harg3 _ _ x) ?_
  refine pcons (fun x => xb_piece I i H 20 (by decide) _ arg2 harg2 arg3 harg3 _ _ x) ?_
  refine pcons (fun x => xb_piece I i H 19 (by decide) _ arg2 harg2 arg3 harg3 _ _ x) ?_
  refine pcons (fun x => xb_piece I i H 18 (by decide) _ arg2 harg2 arg3 harg3 _ _ x) ?_
  refine pcons (fun x => xb_piece I i H 17 (by decide) _ arg2 harg2 arg3 harg3 _ _ x) ?_
  refine pcons (fun x => xb_piece I i H 16 (by decide) _ arg2 harg2 arg3 harg3 _ _ x) ?_
  refine pcons (fun x => xb_piece I i H 15 (by decide) _ arg2 harg2 arg3 harg3 _ _ x) ?_
  refine pcons (fun x => xb_piece I i H 14 (by decide) _ arg2 harg2 arg3 harg3 _ _ x) ?_
  refine pcons (fun x => xb_piece I i H 13 (by decide) _ arg2 harg2 arg3 harg3 _ _ x) ?_
  refine pcons (fun x => xb_piece I i H 12 (by decide) _ arg2 harg2 arg3 harg3 _ _ x) ?_
  refine pcons (fun x => xb_piece I i H 11 (by decide) _ arg2 harg2 arg3 harg3 _ _ x) ?_
  refine pcons (fun x => xb_piece I i H 10 (by decide) _ arg2 harg2 arg3 harg3 _ _ x) ?_
  refine pcons (fun x => xb_piece I i H 9 (by decide) _ arg2 harg2 arg3 harg3 _ _ x) ?_
  refine pcons (fun x => xb_piece I i H 8 (by decide) _ arg2 harg2 arg3 harg3 _ _ x) ?_
  refine pcons (fun x => xb_piece I i H 7 (by decide) _ arg2 harg2 arg3 harg3 _ _ x) ?_
  refine pcons (fun x => xb_piece I i H 6 (by decide) _ arg2 harg2 arg3 harg3 _ _ x) ?_
  refine pcons (fun x => xb_piece I i H 5 (by decide) _ arg2 harg2 arg3 harg3 _ _ x) ?_
  refine pcons (fun x => xb_piece I i H 4 (by decide) _ arg2 harg2 arg3 harg3 _ _ x) ?_
  refine pcons (fun x => xb_piece I i H 3 (by decide) _ arg2 harg2 arg3 harg3 _ _ x) ?_
  refine pcons (fun x => xb_piece I i H 2 (by decide) _ arg2 harg2 arg3 harg3 _ _ x) ?_
  refine pcons (fun x => xb_piece I i H 1 (by decide) _ arg2 harg2 arg3 harg3 _ _ x) ?_
  refine pcons (fun x => xb_piece I i H 0 (by decide) _ arg2 harg2 arg3 harg3 _ _ x) ?_
  exact trivial

/-- The token scratch, read whole, holds the dequantised tokens, at the first point. -/
theorem first_v489 : ∀ j : S256x6144.Idx, (runFirst.sl.v489 (F := Ideal) c arg2 harg2 arg3 harg3 arg15 x0 x1) j = Spec.xq I (tok i (j 0)) (j 1) := by
  intro j
  unfold runFirst.sl.v489
  rw [readCov_at _ _ (G1 I i) (first_xb I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ (View.cover_of_tiledBy (runFirst.sl.HS1_48 (F := Ideal) c arg2 harg2 arg3 harg3 x0 x1) ![256, 128] (by sl_kernel_rfl) _)]
  exact G1_whole I i _ j

/-- The pieces of the weight scratch hold the dequantised weights, at the first point. -/
theorem first_w : View.PiecesOf (Wsp I) (runFirst.sl.HS0_240 (F := Ideal) c arg4 harg4 arg5 harg5 x2 x3) := by
  unfold runFirst.sl.HS0_240
  refine pcons (fun x => w_piece64 I i H 47 (by decide) arg4 harg4 arg5 harg5 _ _ _ x) ?_
  refine pcons (fun x => w_piece I i H 3 47 (by decide) (by decide) arg4 harg4 arg5 harg5 _ _ _ x) ?_
  refine pcons (fun x => w_piece I i H 2 47 (by decide) (by decide) arg4 harg4 arg5 harg5 _ _ _ x) ?_
  refine pcons (fun x => w_piece I i H 1 47 (by decide) (by decide) arg4 harg4 arg5 harg5 _ _ _ x) ?_
  refine pcons (fun x => w_piece I i H 0 47 (by decide) (by decide) arg4 harg4 arg5 harg5 _ _ _ x) ?_
  refine pcons (fun x => w_piece64 I i H 46 (by decide) arg4 harg4 arg5 harg5 _ _ _ x) ?_
  refine pcons (fun x => w_piece I i H 3 46 (by decide) (by decide) arg4 harg4 arg5 harg5 _ _ _ x) ?_
  refine pcons (fun x => w_piece I i H 2 46 (by decide) (by decide) arg4 harg4 arg5 harg5 _ _ _ x) ?_
  refine pcons (fun x => w_piece I i H 1 46 (by decide) (by decide) arg4 harg4 arg5 harg5 _ _ _ x) ?_
  refine pcons (fun x => w_piece I i H 0 46 (by decide) (by decide) arg4 harg4 arg5 harg5 _ _ _ x) ?_
  refine pcons (fun x => w_piece64 I i H 45 (by decide) arg4 harg4 arg5 harg5 _ _ _ x) ?_
  refine pcons (fun x => w_piece I i H 3 45 (by decide) (by decide) arg4 harg4 arg5 harg5 _ _ _ x) ?_
  refine pcons (fun x => w_piece I i H 2 45 (by decide) (by decide) arg4 harg4 arg5 harg5 _ _ _ x) ?_
  refine pcons (fun x => w_piece I i H 1 45 (by decide) (by decide) arg4 harg4 arg5 harg5 _ _ _ x) ?_
  refine pcons (fun x => w_piece I i H 0 45 (by decide) (by decide) arg4 harg4 arg5 harg5 _ _ _ x) ?_
  refine pcons (fun x => w_piece64 I i H 44 (by decide) arg4 harg4 arg5 harg5 _ _ _ x) ?_
  refine pcons (fun x => w_piece I i H 3 44 (by decide) (by decide) arg4 harg4 arg5 harg5 _ _ _ x) ?_
  refine pcons (fun x => w_piece I i H 2 44 (by decide) (by decide) arg4 harg4 arg5 harg5 _ _ _ x) ?_
  refine pcons (fun x => w_piece I i H 1 44 (by decide) (by decide) arg4 harg4 arg5 harg5 _ _ _ x) ?_
  refine pcons (fun x => w_piece I i H 0 44 (by decide) (by decide) arg4 harg4 arg5 harg5 _ _ _ x) ?_
  refine pcons (fun x => w_piece64 I i H 43 (by decide) arg4 harg4 arg5 harg5 _ _ _ x) ?_
  refine pcons (fun x => w_piece I i H 3 43 (by decide) (by decide) arg4 harg4 arg5 harg5 _ _ _ x) ?_
  refine pcons (fun x => w_piece I i H 2 43 (by decide) (by decide) arg4 harg4 arg5 harg5 _ _ _ x) ?_
  refine pcons (fun x => w_piece I i H 1 43 (by decide) (by decide) arg4 harg4 arg5 harg5 _ _ _ x) ?_
  refine pcons (fun x => w_piece I i H 0 43 (by decide) (by decide) arg4 harg4 arg5 harg5 _ _ _ x) ?_
  refine pcons (fun x => w_piece64 I i H 42 (by decide) arg4 harg4 arg5 harg5 _ _ _ x) ?_
  refine pcons (fun x => w_piece I i H 3 42 (by decide) (by decide) arg4 harg4 arg5 harg5 _ _ _ x) ?_
  refine pcons (fun x => w_piece I i H 2 42 (by decide) (by decide) arg4 harg4 arg5 harg5 _ _ _ x) ?_
  refine pcons (fun x => w_piece I i H 1 42 (by decide) (by decide) arg4 harg4 arg5 harg5 _ _ _ x) ?_
  refine pcons (fun x => w_piece I i H 0 42 (by decide) (by decide) arg4 harg4 arg5 harg5 _ _ _ x) ?_
  refine pcons (fun x => w_piece64 I i H 41 (by decide) arg4 harg4 arg5 harg5 _ _ _ x) ?_
  refine pcons (fun x => w_piece I i H 3 41 (by decide) (by decide) arg4 harg4 arg5 harg5 _ _ _ x) ?_
  refine pcons (fun x => w_piece I i H 2 41 (by decide) (by decide) arg4 harg4 arg5 harg5 _ _ _ x) ?_
  refine pcons (fun x => w_piece I i H 1 41 (by decide) (by decide) arg4 harg4 arg5 harg5 _ _ _ x) ?_
  refine pcons (fun x => w_piece I i H 0 41 (by decide) (by decide) arg4 harg4 arg5 harg5 _ _ _ x) ?_
  refine pcons (fun x => w_piece64 I i H 40 (by decide) arg4 harg4 arg5 harg5 _ _ _ x) ?_
  refine pcons (fun x => w_piece I i H 3 40 (by decide) (by decide) arg4 harg4 arg5 harg5 _ _ _ x) ?_
  refine pcons (fun x => w_piece I i H 2 40 (by decide) (by decide) arg4 harg4 arg5 harg5 _ _ _ x) ?_
  refine pcons (fun x => w_piece I i H 1 40 (by decide) (by decide) arg4 harg4 arg5 harg5 _ _ _ x) ?_
  refine pcons (fun x => w_piece I i H 0 40 (by decide) (by decide) arg4 harg4 arg5 harg5 _ _ _ x) ?_
  refine pcons (fun x => w_piece64 I i H 39 (by decide) arg4 harg4 arg5 harg5 _ _ _ x) ?_
  refine pcons (fun x => w_piece I i H 3 39 (by decide) (by decide) arg4 harg4 arg5 harg5 _ _ _ x) ?_
  refine pcons (fun x => w_piece I i H 2 39 (by decide) (by decide) arg4 harg4 arg5 harg5 _ _ _ x) ?_
  refine pcons (fun x => w_piece I i H 1 39 (by decide) (by decide) arg4 harg4 arg5 harg5 _ _ _ x) ?_
  refine pcons (fun x => w_piece I i H 0 39 (by decide) (by decide) arg4 harg4 arg5 harg5 _ _ _ x) ?_
  refine pcons (fun x => w_piece64 I i H 38 (by decide) arg4 harg4 arg5 harg5 _ _ _ x) ?_
  refine pcons (fun x => w_piece I i H 3 38 (by decide) (by decide) arg4 harg4 arg5 harg5 _ _ _ x) ?_
  refine pcons (fun x => w_piece I i H 2 38 (by decide) (by decide) arg4 harg4 arg5 harg5 _ _ _ x) ?_
  refine pcons (fun x => w_piece I i H 1 38 (by decide) (by decide) arg4 harg4 arg5 harg5 _ _ _ x) ?_
  refine pcons (fun x => w_piece I i H 0 38 (by decide) (by decide) arg4 harg4 arg5 harg5 _ _ _ x) ?_
  refine pcons (fun x => w_piece64 I i H 37 (by decide) arg4 harg4 arg5 harg5 _ _ _ x) ?_
  refine pcons (fun x => w_piece I i H 3 37 (by decide) (by decide) arg4 harg4 arg5 harg5 _ _ _ x) ?_
  refine pcons (fun x => w_piece I i H 2 37 (by decide) (by decide) arg4 harg4 arg5 harg5 _ _ _ x) ?_
  refine pcons (fun x => w_piece I i H 1 37 (by decide) (by decide) arg4 harg4 arg5 harg5 _ _ _ x) ?_
  refine pcons (fun x => w_piece I i H 0 37 (by decide) (by decide) arg4 harg4 arg5 harg5 _ _ _ x) ?_
  refine pcons (fun x => w_piece64 I i H 36 (by decide) arg4 harg4 arg5 harg5 _ _ _ x) ?_
  refine pcons (fun x => w_piece I i H 3 36 (by decide) (by decide) arg4 harg4 arg5 harg5 _ _ _ x) ?_
  refine pcons (fun x => w_piece I i H 2 36 (by decide) (by decide) arg4 harg4 arg5 harg5 _ _ _ x) ?_
  refine pcons (fun x => w_piece I i H 1 36 (by decide) (by decide) arg4 harg4 arg5 harg5 _ _ _ x) ?_
  refine pcons (fun x => w_piece I i H 0 36 (by decide) (by decide) arg4 harg4 arg5 harg5 _ _ _ x) ?_
  refine pcons (fun x => w_piece64 I i H 35 (by decide) arg4 harg4 arg5 harg5 _ _ _ x) ?_
  refine pcons (fun x => w_piece I i H 3 35 (by decide) (by decide) arg4 harg4 arg5 harg5 _ _ _ x) ?_
  refine pcons (fun x => w_piece I i H 2 35 (by decide) (by decide) arg4 harg4 arg5 harg5 _ _ _ x) ?_
  refine pcons (fun x => w_piece I i H 1 35 (by decide) (by decide) arg4 harg4 arg5 harg5 _ _ _ x) ?_
  refine pcons (fun x => w_piece I i H 0 35 (by decide) (by decide) arg4 harg4 arg5 harg5 _ _ _ x) ?_
  refine pcons (fun x => w_piece64 I i H 34 (by decide) arg4 harg4 arg5 harg5 _ _ _ x) ?_
  refine pcons (fun x => w_piece I i H 3 34 (by decide) (by decide) arg4 harg4 arg5 harg5 _ _ _ x) ?_
  refine pcons (fun x => w_piece I i H 2 34 (by decide) (by decide) arg4 harg4 arg5 harg5 _ _ _ x) ?_
  refine pcons (fun x => w_piece I i H 1 34 (by decide) (by decide) arg4 harg4 arg5 harg5 _ _ _ x) ?_
  refine pcons (fun x => w_piece I i H 0 34 (by decide) (by decide) arg4 harg4 arg5 harg5 _ _ _ x) ?_
  refine pcons (fun x => w_piece64 I i H 33 (by decide) arg4 harg4 arg5 harg5 _ _ _ x) ?_
  refine pcons (fun x => w_piece I i H 3 33 (by decide) (by decide) arg4 harg4 arg5 harg5 _ _ _ x) ?_
  refine pcons (fun x => w_piece I i H 2 33 (by decide) (by decide) arg4 harg4 arg5 harg5 _ _ _ x) ?_
  refine pcons (fun x => w_piece I i H 1 33 (by decide) (by decide) arg4 harg4 arg5 harg5 _ _ _ x) ?_
  refine pcons (fun x => w_piece I i H 0 33 (by decide) (by decide) arg4 harg4 arg5 harg5 _ _ _ x) ?_
  refine pcons (fun x => w_piece64 I i H 32 (by decide) arg4 harg4 arg5 harg5 _ _ _ x) ?_
  refine pcons (fun x => w_piece I i H 3 32 (by decide) (by decide) arg4 harg4 arg5 harg5 _ _ _ x) ?_
  refine pcons (fun x => w_piece I i H 2 32 (by decide) (by decide) arg4 harg4 arg5 harg5 _ _ _ x) ?_
  refine pcons (fun x => w_piece I i H 1 32 (by decide) (by decide) arg4 harg4 arg5 harg5 _ _ _ x) ?_
  refine pcons (fun x => w_piece I i H 0 32 (by decide) (by decide) arg4 harg4 arg5 harg5 _ _ _ x) ?_
  refine pcons (fun x => w_piece64 I i H 31 (by decide) arg4 harg4 arg5 harg5 _ _ _ x) ?_
  refine pcons (fun x => w_piece I i H 3 31 (by decide) (by decide) arg4 harg4 arg5 harg5 _ _ _ x) ?_
  refine pcons (fun x => w_piece I i H 2 31 (by decide) (by decide) arg4 harg4 arg5 harg5 _ _ _ x) ?_
  refine pcons (fun x => w_piece I i H 1 31 (by decide) (by decide) arg4 harg4 arg5 harg5 _ _ _ x) ?_
  refine pcons (fun x => w_piece I i H 0 31 (by decide) (by decide) arg4 harg4 arg5 harg5 _ _ _ x) ?_
  refine pcons (fun x => w_piece64 I i H 30 (by decide) arg4 harg4 arg5 harg5 _ _ _ x) ?_
  refine pcons (fun x => w_piece I i H 3 30 (by decide) (by decide) arg4 harg4 arg5 harg5 _ _ _ x) ?_
  refine pcons (fun x => w_piece I i H 2 30 (by decide) (by decide) arg4 harg4 arg5 harg5 _ _ _ x) ?_
  refine pcons (fun x => w_piece I i H 1 30 (by decide) (by decide) arg4 harg4 arg5 harg5 _ _ _ x) ?_
  refine pcons (fun x => w_piece I i H 0 30 (by decide) (by decide) arg4 harg4 arg5 harg5 _ _ _ x) ?_
  refine pcons (fun x => w_piece64 I i H 29 (by decide) arg4 harg4 arg5 harg5 _ _ _ x) ?_
  refine pcons (fun x => w_piece I i H 3 29 (by decide) (by decide) arg4 harg4 arg5 harg5 _ _ _ x) ?_
  refine pcons (fun x => w_piece I i H 2 29 (by decide) (by decide) arg4 harg4 arg5 harg5 _ _ _ x) ?_
  refine pcons (fun x => w_piece I i H 1 29 (by decide) (by decide) arg4 harg4 arg5 harg5 _ _ _ x) ?_
  refine pcons (fun x => w_piece I i H 0 29 (by decide) (by decide) arg4 harg4 arg5 harg5 _ _ _ x) ?_
  refine pcons (fun x => w_piece64 I i H 28 (by decide) arg4 harg4 arg5 harg5 _ _ _ x) ?_
  refine pcons (fun x => w_piece I i H 3 28 (by decide) (by decide) arg4 harg4 arg5 harg5 _ _ _ x) ?_
  refine pcons (fun x => w_piece I i H 2 28 (by decide) (by decide) arg4 harg4 arg5 harg5 _ _ _ x) ?_
  refine pcons (fun x => w_piece I i H 1 28 (by decide) (by decide) arg4 harg4 arg5 harg5 _ _ _ x) ?_
  refine pcons (fun x => w_piece I i H 0 28 (by decide) (by decide) arg4 harg4 arg5 harg5 _ _ _ x) ?_
  refine pcons (fun x => w_piece64 I i H 27 (by decide) arg4 harg4 arg5 harg5 _ _ _ x) ?_
  refine pcons (fun x => w_piece I i H 3 27 (by decide) (by decide) arg4 harg4 arg5 harg5 _ _ _ x) ?_
  refine pcons (fun x => w_piece I i H 2 27 (by decide) (by decide) arg4 harg4 arg5 harg5 _ _ _ x) ?_
  refine pcons (fun x => w_piece I i H 1 27 (by decide) (by decide) arg4 harg4 arg5 harg5 _ _ _ x) ?_
  refine pcons (fun x => w_piece I i H 0 27 (by decide) (by decide) arg4 harg4 arg5 harg5 _ _ _ x) ?_
  refine pcons (fun x => w_piece64 I i H 26 (by decide) arg4 harg4 arg5 harg5 _ _ _ x) ?_
  refine pcons (fun x => w_piece I i H 3 26 (by decide) (by decide) arg4 harg4 arg5 harg5 _ _ _ x) ?_
  refine pcons (fun x => w_piece I i H 2 26 (by decide) (by decide) arg4 harg4 arg5 harg5 _ _ _ x) ?_
  refine pcons (fun x => w_piece I i H 1 26 (by decide) (by decide) arg4 harg4 arg5 harg5 _ _ _ x) ?_
  refine pcons (fun x => w_piece I i H 0 26 (by decide) (by decide) arg4 harg4 arg5 harg5 _ _ _ x) ?_
  refine pcons (fun x => w_piece64 I i H 25 (by decide) arg4 harg4 arg5 harg5 _ _ _ x) ?_
  refine pcons (fun x => w_piece I i H 3 25 (by decide) (by decide) arg4 harg4 arg5 harg5 _ _ _ x) ?_
  refine pcons (fun x => w_piece I i H 2 25 (by decide) (by decide) arg4 harg4 arg5 harg5 _ _ _ x) ?_
  refine pcons (fun x => w_piece I i H 1 25 (by decide) (by decide) arg4 harg4 arg5 harg5 _ _ _ x) ?_
  refine pcons (fun x => w_piece I i H 0 25 (by decide) (by decide) arg4 harg4 arg5 harg5 _ _ _ x) ?_
  refine pcons (fun x => w_piece64 I i H 24 (by decide) arg4 harg4 arg5 harg5 _ _ _ x) ?_
  refine pcons (fun x => w_piece I i H 3 24 (by decide) (by decide) arg4 harg4 arg5 harg5 _ _ _ x) ?_
  refine pcons (fun x => w_piece I i H 2 24 (by decide) (by decide) arg4 harg4 arg5 harg5 _ _ _ x) ?_
  refine pcons (fun x => w_piece I i H 1 24 (by decide) (by decide) arg4 harg4 arg5 harg5 _ _ _ x) ?_
  refine pcons (fun x => w_piece I i H 0 24 (by decide) (by decide) arg4 harg4 arg5 harg5 _ _ _ x) ?_
  refine pcons (fun x => w_piece64 I i H 23 (by decide) arg4 harg4 arg5 harg5 _ _ _ x) ?_
  refine pcons (fun x => w_piece I i H 3 23 (by decide) (by decide) arg4 harg4 arg5 harg5 _ _ _ x) ?_
  refine pcons (fun x => w_piece I i H 2 23 (by decide) (by decide) arg4 harg4 arg5 harg5 _ _ _ x) ?_
  refine pcons (fun x => w_piece I i H 1 23 (by decide) (by decide) arg4 harg4 arg5 harg5 _ _ _ x) ?_
  refine pcons (fun x => w_piece I i H 0 23 (by decide) (by decide) arg4 harg4 arg5 harg5 _ _ _ x) ?_
  refine pcons (fun x => w_piece64 I i H 22 (by decide) arg4 harg4 arg5 harg5 _ _ _ x) ?_
  refine pcons (fun x => w_piece I i H 3 22 (by decide) (by decide) arg4 harg4 arg5 harg5 _ _ _ x) ?_
  refine pcons (fun x => w_piece I i H 2 22 (by decide) (by decide) arg4 harg4 arg5 harg5 _ _ _ x) ?_
  refine pcons (fun x => w_piece I i H 1 22 (by decide) (by decide) arg4 harg4 arg5 harg5 _ _ _ x) ?_
  refine pcons (fun x => w_piece I i H 0 22 (by decide) (by decide) arg4 harg4 arg5 harg5 _ _ _ x) ?_
  refine pcons (fun x => w_piece64 I i H 21 (by decide) arg4 harg4 arg5 harg5 _ _ _ x) ?_
  refine pcons (fun x => w_piece I i H 3 21 (by decide) (by decide) arg4 harg4 arg5 harg5 _ _ _ x) ?_
  refine pcons (fun x => w_piece I i H 2 21 (by decide) (by decide) arg4 harg4 arg5 harg5 _ _ _ x) ?_
  refine pcons (fun x => w_piece I i H 1 21 (by decide) (by decide) arg4 harg4 arg5 harg5 _ _ _ x) ?_
  refine pcons (fun x => w_piece I i H 0 21 (by decide) (by decide) arg4 harg4 arg5 harg5 _ _ _ x) ?_
  refine pcons (fun x => w_piece64 I i H 20 (by decide) arg4 harg4 arg5 harg5 _ _ _ x) ?_
  refine pcons (fun x => w_piece I i H 3 20 (by decide) (by decide) arg4 harg4 arg5 harg5 _ _ _ x) ?_
  refine pcons (fun x => w_piece I i H 2 20 (by decide) (by decide) arg4 harg4 arg5 harg5 _ _ _ x) ?_
  refine pcons (fun x => w_piece I i H 1 20 (by decide) (by decide) arg4 harg4 arg5 harg5 _ _ _ x) ?_
  refine pcons (fun x => w_piece I i H 0 20 (by decide) (by decide) arg4 harg4 arg5 harg5 _ _ _ x) ?_
  refine pcons (fun x => w_piece64 I i H 19 (by decide) arg4 harg4 arg5 harg5 _ _ _ x) ?_
  refine pcons (fun x => w_piece I i H 3 19 (by decide) (by decide) arg4 harg4 arg5 harg5 _ _ _ x) ?_
  refine pcons (fun x => w_piece I i H 2 19 (by decide) (by decide) arg4 harg4 arg5 harg5 _ _ _ x) ?_
  refine pcons (fun x => w_piece I i H 1 19 (by decide) (by decide) arg4 harg4 arg5 harg5 _ _ _ x) ?_
  refine pcons (fun x => w_piece I i H 0 19 (by decide) (by decide) arg4 harg4 arg5 harg5 _ _ _ x) ?_
  refine pcons (fun x => w_piece64 I i H 18 (by decide) arg4 harg4 arg5 harg5 _ _ _ x) ?_
  refine pcons (fun x => w_piece I i H 3 18 (by decide) (by decide) arg4 harg4 arg5 harg5 _ _ _ x) ?_
  refine pcons (fun x => w_piece I i H 2 18 (by decide) (by decide) arg4 harg4 arg5 harg5 _ _ _ x) ?_
  refine pcons (fun x => w_piece I i H 1 18 (by decide) (by decide) arg4 harg4 arg5 harg5 _ _ _ x) ?_
  refine pcons (fun x => w_piece I i H 0 18 (by decide) (by decide) arg4 harg4 arg5 harg5 _ _ _ x) ?_
  refine pcons (fun x => w_piece64 I i H 17 (by decide) arg4 harg4 arg5 harg5 _ _ _ x) ?_
  refine pcons (fun x => w_piece I i H 3 17 (by decide) (by decide) arg4 harg4 arg5 harg5 _ _ _ x) ?_
  refine pcons (fun x => w_piece I i H 2 17 (by decide) (by decide) arg4 harg4 arg5 harg5 _ _ _ x) ?_
  refine pcons (fun x => w_piece I i H 1 17 (by decide) (by decide) arg4 harg4 arg5 harg5 _ _ _ x) ?_
  refine pcons (fun x => w_piece I i H 0 17 (by decide) (by decide) arg4 harg4 arg5 harg5 _ _ _ x) ?_
  refine pcons (fun x => w_piece64 I i H 16 (by decide) arg4 harg4 arg5 harg5 _ _ _ x) ?_
  refine pcons (fun x => w_piece I i H 3 16 (by decide) (by decide) arg4 harg4 arg5 harg5 _ _ _ x) ?_
  refine pcons (fun x => w_piece I i H 2 16 (by decide) (by decide) arg4 harg4 arg5 harg5 _ _ _ x) ?_
  refine pcons (fun x => w_piece I i H 1 16 (by decide) (by decide) arg4 harg4 arg5 harg5 _ _ _ x) ?_
  refine pcons (fun x => w_piece I i H 0 16 (by decide) (by decide) arg4 harg4 arg5 harg5 _ _ _ x) ?_
  refine pcons (fun x => w_piece64 I i H 15 (by decide) arg4 harg4 arg5 harg5 _ _ _ x) ?_
  refine pcons (fun x => w_piece I i H 3 15 (by decide) (by decide) arg4 harg4 arg5 harg5 _ _ _ x) ?_
  refine pcons (fun x => w_piece I i H 2 15 (by decide) (by decide) arg4 harg4 arg5 harg5 _ _ _ x) ?_
  refine pcons (fun x => w_piece I i H 1 15 (by decide) (by decide) arg4 harg4 arg5 harg5 _ _ _ x) ?_
  refine pcons (fun x => w_piece I i H 0 15 (by decide) (by decide) arg4 harg4 arg5 harg5 _ _ _ x) ?_
  refine pcons (fun x => w_piece64 I i H 14 (by decide) arg4 harg4 arg5 harg5 _ _ _ x) ?_
  refine pcons (fun x => w_piece I i H 3 14 (by decide) (by decide) arg4 harg4 arg5 harg5 _ _ _ x) ?_
  refine pcons (fun x => w_piece I i H 2 14 (by decide) (by decide) arg4 harg4 arg5 harg5 _ _ _ x) ?_
  refine pcons (fun x => w_piece I i H 1 14 (by decide) (by decide) arg4 harg4 arg5 harg5 _ _ _ x) ?_
  refine pcons (fun x => w_piece I i H 0 14 (by decide) (by decide) arg4 harg4 arg5 harg5 _ _ _ x) ?_
  refine pcons (fun x => w_piece64 I i H 13 (by decide) arg4 harg4 arg5 harg5 _ _ _ x) ?_
  refine pcons (fun x => w_piece I i H 3 13 (by decide) (by decide) arg4 harg4 arg5 harg5 _ _ _ x) ?_
  refine pcons (fun x => w_piece I i H 2 13 (by decide) (by decide) arg4 harg4 arg5 harg5 _ _ _ x) ?_
  refine pcons (fun x => w_piece I i H 1 13 (by decide) (by decide) arg4 harg4 arg5 harg5 _ _ _ x) ?_
  refine pcons (fun x => w_piece I i H 0 13 (by decide) (by decide) arg4 harg4 arg5 harg5 _ _ _ x) ?_
  refine pcons (fun x => w_piece64 I i H 12 (by decide) arg4 harg4 arg5 harg5 _ _ _ x) ?_
  refine pcons (fun x => w_piece I i H 3 12 (by decide) (by decide) arg4 harg4 arg5 harg5 _ _ _ x) ?_
  refine pcons (fun x => w_piece I i H 2 12 (by decide) (by decide) arg4 harg4 arg5 harg5 _ _ _ x) ?_
  refine pcons (fun x => w_piece I i H 1 12 (by decide) (by decide) arg4 harg4 arg5 harg5 _ _ _ x) ?_
  refine pcons (fun x => w_piece I i H 0 12 (by decide) (by decide) arg4 harg4 arg5 harg5 _ _ _ x) ?_
  refine pcons (fun x => w_piece64 I i H 11 (by decide) arg4 harg4 arg5 harg5 _ _ _ x) ?_
  refine pcons (fun x => w_piece I i H 3 11 (by decide) (by decide) arg4 harg4 arg5 harg5 _ _ _ x) ?_
  refine pcons (fun x => w_piece I i H 2 11 (by decide) (by decide) arg4 harg4 arg5 harg5 _ _ _ x) ?_
  refine pcons (fun x => w_piece I i H 1 11 (by decide) (by decide) arg4 harg4 arg5 harg5 _ _ _ x) ?_
  refine pcons (fun x => w_piece I i H 0 11 (by decide) (by decide) arg4 harg4 arg5 harg5 _ _ _ x) ?_
  refine pcons (fun x => w_piece64 I i H 10 (by decide) arg4 harg4 arg5 harg5 _ _ _ x) ?_
  refine pcons (fun x => w_piece I i H 3 10 (by decide) (by decide) arg4 harg4 arg5 harg5 _ _ _ x) ?_
  refine pcons (fun x => w_piece I i H 2 10 (by decide) (by decide) arg4 harg4 arg5 harg5 _ _ _ x) ?_
  refine pcons (fun x => w_piece I i H 1 10 (by decide) (by decide) arg4 harg4 arg5 harg5 _ _ _ x) ?_
  refine pcons (fun x => w_piece I i H 0 10 (by decide) (by decide) arg4 harg4 arg5 harg5 _ _ _ x) ?_
  refine pcons (fun x => w_piece64 I i H 9 (by decide) arg4 harg4 arg5 harg5 _ _ _ x) ?_
  refine pcons (fun x => w_piece I i H 3 9 (by decide) (by decide) arg4 harg4 arg5 harg5 _ _ _ x) ?_
  refine pcons (fun x => w_piece I i H 2 9 (by decide) (by decide) arg4 harg4 arg5 harg5 _ _ _ x) ?_
  refine pcons (fun x => w_piece I i H 1 9 (by decide) (by decide) arg4 harg4 arg5 harg5 _ _ _ x) ?_
  refine pcons (fun x => w_piece I i H 0 9 (by decide) (by decide) arg4 harg4 arg5 harg5 _ _ _ x) ?_
  refine pcons (fun x => w_piece64 I i H 8 (by decide) arg4 harg4 arg5 harg5 _ _ _ x) ?_
  refine pcons (fun x => w_piece I i H 3 8 (by decide) (by decide) arg4 harg4 arg5 harg5 _ _ _ x) ?_
  refine pcons (fun x => w_piece I i H 2 8 (by decide) (by decide) arg4 harg4 arg5 harg5 _ _ _ x) ?_
  refine pcons (fun x => w_piece I i H 1 8 (by decide) (by decide) arg4 harg4 arg5 harg5 _ _ _ x) ?_
  refine pcons (fun x => w_piece I i H 0 8 (by decide) (by decide) arg4 harg4 arg5 harg5 _ _ _ x) ?_
  refine pcons (fun x => w_piece64 I i H 7 (by decide) arg4 harg4 arg5 harg5 _ _ _ x) ?_
  refine pcons (fun x => w_piece I i H 3 7 (by decide) (by decide) arg4 harg4 arg5 harg5 _ _ _ x) ?_
  refine pcons (fun x => w_piece I i H 2 7 (by decide) (by decide) arg4 harg4 arg5 harg5 _ _ _ x) ?_
  refine pcons (fun x => w_piece I i H 1 7 (by decide) (by decide) arg4 harg4 arg5 harg5 _ _ _ x) ?_
  refine pcons (fun x => w_piece I i H 0 7 (by decide) (by decide) arg4 harg4 arg5 harg5 _ _ _ x) ?_
  refine pcons (fun x => w_piece64 I i H 6 (by decide) arg4 harg4 arg5 harg5 _ _ _ x) ?_
  refine pcons (fun x => w_piece I i H 3 6 (by decide) (by decide) arg4 harg4 arg5 harg5 _ _ _ x) ?_
  refine pcons (fun x => w_piece I i H 2 6 (by decide) (by decide) arg4 harg4 arg5 harg5 _ _ _ x) ?_
  refine pcons (fun x => w_piece I i H 1 6 (by decide) (by decide) arg4 harg4 arg5 harg5 _ _ _ x) ?_
  refine pcons (fun x => w_piece I i H 0 6 (by decide) (by decide) arg4 harg4 arg5 harg5 _ _ _ x) ?_
  refine pcons (fun x => w_piece64 I i H 5 (by decide) arg4 harg4 arg5 harg5 _ _ _ x) ?_
  refine pcons (fun x => w_piece I i H 3 5 (by decide) (by decide) arg4 harg4 arg5 harg5 _ _ _ x) ?_
  refine pcons (fun x => w_piece I i H 2 5 (by decide) (by decide) arg4 harg4 arg5 harg5 _ _ _ x) ?_
  refine pcons (fun x => w_piece I i H 1 5 (by decide) (by decide) arg4 harg4 arg5 harg5 _ _ _ x) ?_
  refine pcons (fun x => w_piece I i H 0 5 (by decide) (by decide) arg4 harg4 arg5 harg5 _ _ _ x) ?_
  refine pcons (fun x => w_piece64 I i H 4 (by decide) arg4 harg4 arg5 harg5 _ _ _ x) ?_
  refine pcons (fun x => w_piece I i H 3 4 (by decide) (by decide) arg4 harg4 arg5 harg5 _ _ _ x) ?_
  refine pcons (fun x => w_piece I i H 2 4 (by decide) (by decide) arg4 harg4 arg5 harg5 _ _ _ x) ?_
  refine pcons (fun x => w_piece I i H 1 4 (by decide) (by decide) arg4 harg4 arg5 harg5 _ _ _ x) ?_
  refine pcons (fun x => w_piece I i H 0 4 (by decide) (by decide) arg4 harg4 arg5 harg5 _ _ _ x) ?_
  refine pcons (fun x => w_piece64 I i H 3 (by decide) arg4 harg4 arg5 harg5 _ _ _ x) ?_
  refine pcons (fun x => w_piece I i H 3 3 (by decide) (by decide) arg4 harg4 arg5 harg5 _ _ _ x) ?_
  refine pcons (fun x => w_piece I i H 2 3 (by decide) (by decide) arg4 harg4 arg5 harg5 _ _ _ x) ?_
  refine pcons (fun x => w_piece I i H 1 3 (by decide) (by decide) arg4 harg4 arg5 harg5 _ _ _ x) ?_
  refine pcons (fun x => w_piece I i H 0 3 (by decide) (by decide) arg4 harg4 arg5 harg5 _ _ _ x) ?_
  refine pcons (fun x => w_piece64 I i H 2 (by decide) arg4 harg4 arg5 harg5 _ _ _ x) ?_
  refine pcons (fun x => w_piece I i H 3 2 (by decide) (by decide) arg4 harg4 arg5 harg5 _ _ _ x) ?_
  refine pcons (fun x => w_piece I i H 2 2 (by decide) (by decide) arg4 harg4 arg5 harg5 _ _ _ x) ?_
  refine pcons (fun x => w_piece I i H 1 2 (by decide) (by decide) arg4 harg4 arg5 harg5 _ _ _ x) ?_
  refine pcons (fun x => w_piece I i H 0 2 (by decide) (by decide) arg4 harg4 arg5 harg5 _ _ _ x) ?_
  refine pcons (fun x => w_piece64 I i H 1 (by decide) arg4 harg4 arg5 harg5 _ _ _ x) ?_
  refine pcons (fun x => w_piece I i H 3 1 (by decide) (by decide) arg4 harg4 arg5 harg5 _ _ _ x) ?_
  refine pcons (fun x => w_piece I i H 2 1 (by decide) (by decide) arg4 harg4 arg5 harg5 _ _ _ x) ?_
  refine pcons (fun x => w_piece I i H 1 1 (by decide) (by decide) arg4 harg4 arg5 harg5 _ _ _ x) ?_
  refine pcons (fun x => w_piece I i H 0 1 (by decide) (by decide) arg4 harg4 arg5 harg5 _ _ _ x) ?_
  refine pcons (fun x => w_piece64 I i H 0 (by decide) arg4 harg4 arg5 harg5 _ _ _ x) ?_
  refine pcons (fun x => w_piece I i H 3 0 (by decide) (by decide) arg4 harg4 arg5 harg5 _ _ _ x) ?_
  refine pcons (fun x => w_piece I i H 2 0 (by decide) (by decide) arg4 harg4 arg5 harg5 _ _ _ x) ?_
  refine pcons (fun x => w_piece I i H 1 0 (by decide) (by decide) arg4 harg4 arg5 harg5 _ _ _ x) ?_
  refine pcons (fun x => w_piece I i H 0 0 (by decide) (by decide) arg4 harg4 arg5 harg5 _ _ _ x) ?_
  exact trivial

/-- Those pieces cover the whole weight scratch, at the first point. -/
theorem first_wcover : ∀ y : S576x6144.Idx, ∃ p ∈ (runFirst.sl.HS0_240 (F := Ideal) c arg4 harg4 arg5 harg5 x2 x3), y ∈ p.1.set := by
  exact View.cover_of_tiledBy (runFirst.sl.HS0_240 (F := Ideal) c arg4 harg4 arg5 harg5 x2 x3) ![64, 128] (by sl_kernel_rfl)

/-- The weight scratch's latent rows, read back, are the dequantised weights, at the first point. -/
theorem first_wtop : ∀ j : S512x6144.Idx, (runFirst.sl.v488 (F := Ideal) c arg4 harg4 arg5 harg5 arg14 x2 x3) j = Spec.wq I (top (j 0)) (j 1) := by
  intro j
  unfold runFirst.sl.v488
  rw [readCov_at _ _ (Wsp I) (first_w I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ ((first_wcover I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _)]
  exact Wsp_rows I _ j

/-- The weight scratch's columns from 0 on, read back, are the dequantised weights, at the first point. -/
theorem first_wcol0 : ∀ j : S576x1024.Idx, (runFirst.sl.v1177 (F := Ideal) c arg4 harg4 arg5 harg5 arg14 x2 x3) j = Spec.wq I (j 0) (col 0 (j 1)) := by
  intro j
  unfold runFirst.sl.v1177
  rw [readCov_at _ _ (Wsp I) (first_w I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ ((first_wcover I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _)]
  exact Wsp_cols I 0 _ j

/-- The weight scratch's columns from 1024 on, read back, are the dequantised weights, at the first point. -/
theorem first_wcol1 : ∀ j : S576x1024.Idx, (runFirst.sl.v1182 (F := Ideal) c arg4 harg4 arg5 harg5 arg14 x2 x3) j = Spec.wq I (j 0) (col 1 (j 1)) := by
  intro j
  unfold runFirst.sl.v1182
  rw [readCov_at _ _ (Wsp I) (first_w I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ ((first_wcover I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _)]
  exact Wsp_cols I 1 _ j

/-- The weight scratch's columns from 2048 on, read back, are the dequantised weights, at the first point. -/
theorem first_wcol2 : ∀ j : S576x1024.Idx, (runFirst.sl.v1187 (F := Ideal) c arg4 harg4 arg5 harg5 arg14 x2 x3) j = Spec.wq I (j 0) (col 2 (j 1)) := by
  intro j
  unfold runFirst.sl.v1187
  rw [readCov_at _ _ (Wsp I) (first_w I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ ((first_wcover I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _)]
  exact Wsp_cols I 2 _ j

/-- The weight scratch's columns from 3072 on, read back, are the dequantised weights, at the first point. -/
theorem first_wcol3 : ∀ j : S576x1024.Idx, (runFirst.sl.v1192 (F := Ideal) c arg4 harg4 arg5 harg5 arg14 x2 x3) j = Spec.wq I (j 0) (col 3 (j 1)) := by
  intro j
  unfold runFirst.sl.v1192
  rw [readCov_at _ _ (Wsp I) (first_w I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ ((first_wcover I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _)]
  exact Wsp_cols I 3 _ j

/-- The weight scratch's columns from 4096 on, read back, are the dequantised weights, at the first point. -/
theorem first_wcol4 : ∀ j : S576x1024.Idx, (runFirst.sl.v1197 (F := Ideal) c arg4 harg4 arg5 harg5 arg14 x2 x3) j = Spec.wq I (j 0) (col 4 (j 1)) := by
  intro j
  unfold runFirst.sl.v1197
  rw [readCov_at _ _ (Wsp I) (first_w I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ ((first_wcover I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _)]
  exact Wsp_cols I 4 _ j

/-- The weight scratch's columns from 5120 on, read back, are the dequantised weights, at the first point. -/
theorem first_wcol5 : ∀ j : S576x1024.Idx, (runFirst.sl.v1202 (F := Ideal) c arg4 harg4 arg5 harg5 arg14 x2 x3) j = Spec.wq I (j 0) (col 5 (j 1)) := by
  intro j
  unfold runFirst.sl.v1202
  rw [readCov_at _ _ (Wsp I) (first_w I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ ((first_wcover I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _)]
  exact Wsp_cols I 5 _ j

/-- The first product is the latent of every token of the block, at the first point. -/
theorem first_cl : ∀ j : S512x256.Idx, k0_pay363 (F := Ideal) (runFirst.sl.v488 (F := Ideal) c arg4 harg4 arg5 harg5 arg14 x2 x3) (runFirst.sl.v489 (F := Ideal) c arg2 harg2 arg3 harg3 arg15 x0 x1) j = Spec.cL I (tok i (j 1)) (j 0) := by
  exact fun j => pay363_at I (tok i) _ _ (first_wtop I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_v489 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) j

/-- The block's gradient of the latent is the stated one, at the first point. -/
theorem first_dcg : ∀ j : S512x256.Idx, (runFirst.sl.r_327 (F := Ideal) c arg2 harg2 arg3 harg3 arg4 harg4 arg5 harg5 arg6 harg6 arg8 harg8 arg14 arg15 x0 x1 x2 x3 x4 x6) j = Spec.dcg I (tok i (j 1)) (j 0) := by
  intro j
  unfold runFirst.sl.r_327
  exact pay371_at I (tok i) _ _ _ _ (fun j => (first_cl I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) j) (fun j => (pay364_at _ j).trans (dc_at I i H arg8 harg8 _ _))
    (fun j => (pay365_at _ j).trans (gain_at I i H arg6 harg6 _ _)) (fun j => pay366_at I (tok i) _ _ (first_cl I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) j) j

/-- The block's parts of the gain's gradient are the stated ones, at the first point. -/
theorem first_prod : ∀ j : S512x256.Idx, (runFirst.sl.r_325 (F := Ideal) c arg2 harg2 arg3 harg3 arg4 harg4 arg5 harg5 arg8 harg8 arg14 arg15 x0 x1 x2 x3 x6) j = Spec.prod I (tok i (j 1)) (j 0) := by
  intro j
  unfold runFirst.sl.r_325
  exact pay367_at I (tok i) _ _ _ (first_cl I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (fun j => dc_at I i H arg8 harg8 _ j) j

/-- The rotary scratch's first half, once stored, holds the rotary gradient, at the first point. -/
theorem first_dk0 : View.PiecesOf (G2 I i) (runFirst.sl.HS2_1 (F := Ideal) c arg9 harg9 x7) := by
  unfold runFirst.sl.HS2_1
  exact pcons (fun x => dk_piece0 I i H arg9 harg9 (by decide) (by decide) x) trivial

/-- The rotary scratch's both halves, once stored, hold the rotary gradient, at the first point. -/
theorem first_dk1 : View.PiecesOf (G2 I i) (runFirst.sl.HS2_2 (F := Ideal) c arg9 harg9 x7) := by
  unfold runFirst.sl.HS2_2
  exact pcons (fun x => dk_piece1 I i H arg9 harg9 (by decide) (by decide) x) (first_dk0 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)

/-- The even rows read from the first half of the rotary scratch, at the first point. -/
theorem first_v576 : ∀ j : S1x32x128.Idx, (runFirst.sl.v576 (F := Ideal) c arg9 harg9 arg16 x7) j = I.dk (tok i (lo (j 2))) (ev (j 1)) := by
  intro j
  unfold runFirst.sl.v576
  refine (readCov_at _ _ (G2 I i) (first_dk0 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (half 0 0 (by decide)) j ?_).trans ?_
  · unfold runFirst.sl.HS2_1
    exact ⟨_, List.mem_cons_self, half_mem0 0 (by decide) _ (half_val0 0 0 (by decide) j)⟩
  · exact G2_half00 I i (by decide) j

/-- The odd rows read from the first half of the rotary scratch, at the first point. -/
theorem first_v578 : ∀ j : S1x32x128.Idx, (runFirst.sl.v578 (F := Ideal) c arg9 harg9 arg16 x7) j = I.dk (tok i (lo (j 2))) (od (j 1)) := by
  intro j
  unfold runFirst.sl.v578
  refine (readCov_at _ _ (G2 I i) (first_dk0 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (half 0 1 (by decide)) j ?_).trans ?_
  · unfold runFirst.sl.HS2_1
    exact ⟨_, List.mem_cons_self, half_mem0 0 (by decide) _ (half_val0 0 1 (by decide) j)⟩
  · exact G2_half01 I i (by decide) j

/-- The even rows read from the second half of the rotary scratch, at the first point. -/
theorem first_v604 : ∀ j : S1x32x128.Idx, (runFirst.sl.v604 (F := Ideal) c arg9 harg9 arg16 x7) j = I.dk (tok i (hi (j 2))) (ev (j 1)) := by
  intro j
  unfold runFirst.sl.v604
  refine (readCov_at _ _ (G2 I i) (first_dk1 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (half 1 0 (by decide)) j ?_).trans ?_
  · unfold runFirst.sl.HS2_2
    exact ⟨_, List.mem_cons_self, half_mem0 1 (by decide) _ (half_val0 1 0 (by decide) j)⟩
  · exact G2_half10 I i (by decide) j

/-- The odd rows read from the second half of the rotary scratch, at the first point. -/
theorem first_v606 : ∀ j : S1x32x128.Idx, (runFirst.sl.v606 (F := Ideal) c arg9 harg9 arg16 x7) j = I.dk (tok i (hi (j 2))) (od (j 1)) := by
  intro j
  unfold runFirst.sl.v606
  refine (readCov_at _ _ (G2 I i) (first_dk1 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (half 1 1 (by decide)) j ?_).trans ?_
  · unfold runFirst.sl.HS2_2
    exact ⟨_, List.mem_cons_self, half_mem0 1 (by decide) _ (half_val0 1 1 (by decide) j)⟩
  · exact G2_half11 I i (by decide) j

/-- The pieces of the rotation scratch hold the rotary backward pass, at the first point. -/
theorem first_rotp : View.PiecesOf (G3 I i) (runFirst.sl.HS3_4 (F := Ideal) c i arg7 harg7 arg9 harg9 arg16 x5 x7) := by
  unfold runFirst.sl.HS3_4
  refine pcons (fun x => (pay385_at I (tok i) _ (fun j => pos_at I i H arg7 harg7 _ j) _ _ (first_v604 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_v606 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) x).trans (G3_half11 I i (by decide) x).symm) ?_
  refine pcons (fun x => (pay384_at I (tok i) _ (fun j => pos_at I i H arg7 harg7 _ j) _ _ (first_v604 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_v606 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) x).trans (G3_half10 I i (by decide) x).symm) ?_
  refine pcons (fun x => (pay380_at I (tok i) _ (fun j => pos_at I i H arg7 harg7 _ j) _ _ (first_v576 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_v578 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) x).trans (G3_half01 I i (by decide) x).symm) ?_
  exact pcons (fun x => (pay379_at I (tok i) _ (fun j => pos_at I i H arg7 harg7 _ j) _ _ (first_v576 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_v578 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) x).trans (G3_half00 I i (by decide) x).symm) trivial

/-- Those pieces cover the whole rotation scratch, at the first point. -/
theorem first_rotc : ∀ y : S2x64x128.Idx, ∃ p ∈ (runFirst.sl.HS3_4 (F := Ideal) c i arg7 harg7 arg9 harg9 arg16 x5 x7), y ∈ p.1.set := by
  intro y
  have hy0 : (y 0).val < 2 := (y 0).isLt
  unfold runFirst.sl.HS3_4
  rcases Nat.mod_two_eq_zero_or_one (y 1).val with h | h
  · rcases (by omega : (y 0).val = 0 ∨ (y 0).val = 1) with h0 | h0
    · exact ⟨_, List.mem_cons_of_mem _ (List.mem_cons_of_mem _ (List.mem_cons_of_mem _ List.mem_cons_self)), half_mem 0 0 _ _ y h0 h⟩
    · exact ⟨_, List.mem_cons_of_mem _ List.mem_cons_self, half_mem 1 0 _ _ y h0 h⟩
  · rcases (by omega : (y 0).val = 0 ∨ (y 0).val = 1) with h0 | h0
    · exact ⟨_, List.mem_cons_of_mem _ (List.mem_cons_of_mem _ List.mem_cons_self), half_mem 0 1 _ _ y h0 h⟩
    · exact ⟨_, List.mem_cons_self, half_mem 1 1 _ _ y h0 h⟩

/-- The first half of the rotation scratch, read back, is the rotary backward pass, at the first point. -/
theorem first_v626 : ∀ j : S1x64x128.Idx, (runFirst.sl.v626 (F := Ideal) c i arg7 harg7 arg9 harg9 arg16 arg17 x5 x7) j = Spec.rot I (tok i (lo (j 2))) (j 1) := by
  intro j
  unfold runFirst.sl.v626
  refine (readCov_at _ _ (G3 I i) (first_rotp I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (Rect.unit (s := S2x64x128) ![0, 0, 0] S1x64x128.size (by decide)).toLoadRect j ((first_rotc I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _)).trans ?_
  exact G3_rows0 I i (by decide) j

/-- The second half of the rotation scratch, read back, is the rotary backward pass, at the first point. -/
theorem first_v628 : ∀ j : S1x64x128.Idx, (runFirst.sl.v628 (F := Ideal) c i arg7 harg7 arg9 harg9 arg16 arg17 x5 x7) j = Spec.rot I (tok i (hi (j 2))) (j 1) := by
  intro j
  unfold runFirst.sl.v628
  refine (readCov_at _ _ (G3 I i) (first_rotp I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (Rect.unit (s := S2x64x128) ![1, 0, 0] S1x64x128.size (by decide)).toLoadRect j ((first_rotc I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _)).trans ?_
  exact G3_rows1 I i (by decide) j

/-- The two halves side by side are the rotary backward pass of the block, at the first point. -/
theorem first_rot : ∀ j : S64x256.Idx, (runFirst.sl.r_330 (F := Ideal) c i arg7 harg7 arg9 harg9 arg16 arg17 x5 x7) j = Spec.rot I (tok i (j 1)) (j 0) := by
  intro j
  unfold runFirst.sl.r_330
  exact pay386_at I (tok i) _ _ (first_v626 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_v628 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) j

/-- The pieces of the gradient scratch hold the dequantised gradient, at the first point. -/
theorem first_g : View.PiecesOf (G4 I i) (runFirst.sl.HS4_5 (F := Ideal) c i arg2 harg2 arg3 harg3 arg4 harg4 arg5 harg5 arg6 harg6 arg7 harg7 arg8 harg8 arg9 harg9 arg14 arg15 arg16 arg17 x0 x1 x2 x3 x4 x5 x6 x7) := by
  unfold runFirst.sl.HS4_5
  refine pcons (fun x => (pay442_at I (tok i) (runFirst.sl.r_330 (F := Ideal) c i arg7 harg7 arg9 harg9 arg16 arg17 x5 x7) (first_rot I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) x).trans (G4_bot I i (by decide) x).symm) ?_
  refine pcons (fun x => (congrFun (vgq_3 (runFirst.sl.r_327 (F := Ideal) c arg2 harg2 arg3 harg3 arg4 harg4 arg5 harg5 arg6 harg6 arg8 harg8 arg14 arg15 x0 x1 x2 x3 x4 x6)) x).trans (g_piece I i 3 _ _ (rows_3 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (vmax_3 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (by decide) x)) ?_
  refine pcons (fun x => (congrFun (vgq_2 (k0_pay410 (F := Ideal) (runFirst.sl.r_327 (F := Ideal) c arg2 harg2 arg3 harg3 arg4 harg4 arg5 harg5 arg6 harg6 arg8 harg8 arg14 arg15 x0 x1 x2 x3 x4 x6))) x).trans (g_piece I i 2 _ _ (rows_2 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (vmax_2 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (by decide) x)) ?_
  refine pcons (fun x => (congrFun (vgq_1 (runFirst.sl.r_327 (F := Ideal) c arg2 harg2 arg3 harg3 arg4 harg4 arg5 harg5 arg6 harg6 arg8 harg8 arg14 arg15 x0 x1 x2 x3 x4 x6)) x).trans (g_piece I i 1 _ _ (rows_1 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (vmax_1 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (by decide) x)) ?_
  refine pcons (fun x => (congrFun (vgq_0 (runFirst.sl.r_327 (F := Ideal) c arg2 harg2 arg3 harg3 arg4 harg4 arg5 harg5 arg6 harg6 arg8 harg8 arg14 arg15 x0 x1 x2 x3 x4 x6)) x).trans (g_piece I i 0 _ _ (rows_0 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (vmax_0 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (by decide) x)) ?_
  exact trivial

/-- The gradient scratch, read whole, is the dequantised gradient, at the first point. -/
theorem first_v1176 : ∀ j : S256x576.Idx, (runFirst.sl.v1176 (F := Ideal) c i arg2 harg2 arg3 harg3 arg4 harg4 arg5 harg5 arg6 harg6 arg7 harg7 arg8 harg8 arg9 harg9 arg14 arg15 arg16 arg17 arg18 x0 x1 x2 x3 x4 x5 x6 x7) j = G4 I i j := by
  intro j
  unfold runFirst.sl.v1176
  rw [readCov_at _ _ (G4 I i) (first_g I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ (View.cover_of_tiledBy (runFirst.sl.HS4_5 (F := Ideal) c i arg2 harg2 arg3 harg3 arg4 harg4 arg5 harg5 arg6 harg6 arg7 harg7 arg8 harg8 arg9 harg9 arg14 arg15 arg16 arg17 x0 x1 x2 x3 x4 x5 x6 x7) ![256, 64] (by sl_kernel_rfl) _)]
  exact G4_whole I i _ j

/-- The gradient scratch, read whole for the last column block, is the dequantised gradient, at the first point. -/
theorem first_v1201 : ∀ j : S256x576.Idx, (runFirst.sl.v1201 (F := Ideal) c i arg2 harg2 arg3 harg3 arg4 harg4 arg5 harg5 arg6 harg6 arg7 harg7 arg8 harg8 arg9 harg9 arg14 arg15 arg16 arg17 arg18 x0 x1 x2 x3 x4 x5 x6 x7) j = G4 I i j := by
  intro j
  unfold runFirst.sl.v1201
  rw [readCov_at _ _ (G4 I i) (first_g I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) _ _ (View.cover_of_tiledBy (runFirst.sl.HS4_5 (F := Ideal) c i arg2 harg2 arg3 harg3 arg4 harg4 arg5 harg5 arg6 harg6 arg7 harg7 arg8 harg8 arg9 harg9 arg14 arg15 arg16 arg17 x0 x1 x2 x3 x4 x5 x6 x7) ![256, 64] (by sl_kernel_rfl) _)]
  exact G4_whole I i _ j

variable (hc0 : cond0_0 i) (Y9 : Vec Ideal S6x2x512 .f32) (Y11 : Vec Ideal S5x2x768 .f32)

/-- What is stored of the input's gradient is the stated value, at the first point. -/
theorem first_out8 : View.PiecesOf (G8 I i) (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.1 := by
  unfold runFirst
  dsimp only
  refine pcons (fun x => dx_piece I i 5 _ _ (first_v1201 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_wcol5 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (by decide) x) ?_
  refine pcons (fun x => dx_piece I i 4 _ _ (first_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_wcol4 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (by decide) x) ?_
  refine pcons (fun x => dx_piece I i 3 _ _ (first_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_wcol3 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (by decide) x) ?_
  refine pcons (fun x => dx_piece I i 2 _ _ (first_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_wcol2 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (by decide) x) ?_
  refine pcons (fun x => dx_piece I i 1 _ _ (first_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_wcol1 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (by decide) x) ?_
  refine pcons (fun x => dx_piece I i 0 _ _ (first_v1176 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (first_wcol0 I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) (by decide) x) ?_
  exact trivial

/-- The stores of the input's gradient cover its block, at the first point. -/
theorem first_cov8 : ∀ y : S256x6144.Idx, ∃ p ∈ (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.1, y ∈ p.1.set := by
  exact View.cover_of_tiledBy (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.1 ![256, 1024] (by sl_kernel_rfl)

/-- What is stored of the gain's gradient is the stated value, at the first point. -/
theorem first_out9 : View.PiecesOf (G9 I) (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.2.1 := by
  unfold runFirst
  dsimp only
  refine pcons (fun x => (pay370_at I (tok i) _ (first_prod I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) x).trans (gain_piece1 I i _ (off1_eq1 i) (inb9 i 1 (by decide) _ (off1_eq1 i)) x).symm) ?_
  exact pcons (fun x => (pay369_at I (tok i) _ _ _ (first_prod I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) x).trans (gain_piece0 I i _ (off1_eq0 i) (inb9 i 0 (by decide) _ (off1_eq0 i)) x).symm) trivial

/-- The stores of the gain's gradient fall exactly on this point's part of it, at the first point. -/
theorem first_mem9 : ∀ y : S6x2x512.Idx, (∃ p ∈ (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.2.1, y ∈ p.1.set) ↔ on9 i y := by
  intro y
  unfold runFirst
  dsimp only
  exact ex9 i y _ _ (mem9 i 1 _ (off1_eq1 i) (inb9 i 1 (by decide) _ (off1_eq1 i)) y) (mem9 i 0 _ (off1_eq0 i) (inb9 i 0 (by decide) _ (off1_eq0 i)) y)

/-- What is stored of the codes is the stated value, at the first point. -/
theorem first_out10 : View.PiecesOf (G10 I i) (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.2.2.1 := by
  unfold runFirst
  dsimp only
  refine pcons (fun x => (pay440_at I (tok i) (runFirst.sl.r_330 (F := Ideal) c i arg7 harg7 arg9 harg9 arg16 arg17 x5 x7) (first_rot I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) x).trans (G10_bot I i (by decide) x).symm) ?_
  refine pcons (fun x => (congrFun (scode_3 (runFirst.sl.r_327 (F := Ideal) c arg2 harg2 arg3 harg3 arg4 harg4 arg5 harg5 arg6 harg6 arg8 harg8 arg14 arg15 x0 x1 x2 x3 x4 x6)) x).trans (code_piece I i 3 _ _ (rows_3 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (vmax_3 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (by decide) x)) ?_
  refine pcons (fun x => (congrFun (scode_2 (k0_pay410 (F := Ideal) (runFirst.sl.r_327 (F := Ideal) c arg2 harg2 arg3 harg3 arg4 harg4 arg5 harg5 arg6 harg6 arg8 harg8 arg14 arg15 x0 x1 x2 x3 x4 x6))) x).trans (code_piece I i 2 _ _ (rows_2 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (vmax_2 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (by decide) x)) ?_
  refine pcons (fun x => (congrFun (scode_1 (runFirst.sl.r_327 (F := Ideal) c arg2 harg2 arg3 harg3 arg4 harg4 arg5 harg5 arg6 harg6 arg8 harg8 arg14 arg15 x0 x1 x2 x3 x4 x6)) x).trans (code_piece I i 1 _ _ (rows_1 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (vmax_1 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (by decide) x)) ?_
  refine pcons (fun x => (congrFun (scode_0 (runFirst.sl.r_327 (F := Ideal) c arg2 harg2 arg3 harg3 arg4 harg4 arg5 harg5 arg6 harg6 arg8 harg8 arg14 arg15 x0 x1 x2 x3 x4 x6)) x).trans (code_piece I i 0 _ _ (rows_0 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (vmax_0 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) (by decide) x)) ?_
  exact trivial

/-- The stores of the codes cover their block, at the first point. -/
theorem first_cov10 : ∀ y : S1x576x256.Idx, ∃ p ∈ (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.2.2.1, y ∈ p.1.set := by
  exact View.cover_of_tiledBy (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.2.2.1 ![1, 64, 256] (by sl_kernel_rfl)

/-- What is stored of the scales is the stated value, at the first point. -/
theorem first_out11 : View.PiecesOf (G11 I) (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.2.2.2.1 := by
  unfold runFirst
  dsimp only
  refine pcons (fun x => (pay441_at I (tok i) (runFirst.sl.r_330 (F := Ideal) c i arg7 harg7 arg9 harg9 arg16 arg17 x5 x7) (first_rot I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H) x).trans (scale_eq I i 4 (by decide) _ (off7_eq i) (inb11 i 4 (by decide) _ (off7_eq i)) x).symm) ?_
  refine pcons (fun x => (congrFun (sscale_3 (runFirst.sl.r_327 (F := Ideal) c arg2 harg2 arg3 harg3 arg4 harg4 arg5 harg5 arg6 harg6 arg8 harg8 arg14 arg15 x0 x1 x2 x3 x4 x6)) x).trans (scale_piece I i 3 _ (vmax_3 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) _ (off6_eq i) (inb11 i 3 (by decide) _ (off6_eq i)) x)) ?_
  refine pcons (fun x => (congrFun (sscale_2 (k0_pay410 (F := Ideal) (runFirst.sl.r_327 (F := Ideal) c arg2 harg2 arg3 harg3 arg4 harg4 arg5 harg5 arg6 harg6 arg8 harg8 arg14 arg15 x0 x1 x2 x3 x4 x6))) x).trans (scale_piece I i 2 _ (vmax_2 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) _ (off5_eq i) (inb11 i 2 (by decide) _ (off5_eq i)) x)) ?_
  refine pcons (fun x => (congrFun (sscale_1 (runFirst.sl.r_327 (F := Ideal) c arg2 harg2 arg3 harg3 arg4 harg4 arg5 harg5 arg6 harg6 arg8 harg8 arg14 arg15 x0 x1 x2 x3 x4 x6)) x).trans (scale_piece I i 1 _ (vmax_1 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) _ (off4_eq i) (inb11 i 1 (by decide) _ (off4_eq i)) x)) ?_
  refine pcons (fun x => (congrFun (sscale_0 (runFirst.sl.r_327 (F := Ideal) c arg2 harg2 arg3 harg3 arg4 harg4 arg5 harg5 arg6 harg6 arg8 harg8 arg14 arg15 x0 x1 x2 x3 x4 x6)) x).trans (scale_piece I i 0 _ (vmax_0 I (tok i) (runFirst.sl.r_327 (F := Ideal) c arg2 harg2 arg3 harg3 arg4 harg4 arg5 harg5 arg6 harg6 arg8 harg8 arg14 arg15 x0 x1 x2 x3 x4 x6) (first_dcg I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)) _ (off3_eq i) (inb11 i 0 (by decide) _ (off3_eq i)) x)) ?_
  exact trivial

/-- The stores of the scales fall exactly on this point's part of them, at the first point. -/
theorem first_mem11 : ∀ y : S5x2x768.Idx, (∃ p ∈ (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.2.2.2.1, y ∈ p.1.set) ↔ on11 i y := by
  intro y
  unfold runFirst
  dsimp only
  refine ex11 i y _ _ _ _ _ ?_ ?_ ?_ ?_ ?_
  · exact mem11 i 4 _ (off7_eq i) (inb11 i 4 (by decide) _ (off7_eq i)) y
  · exact mem11 i 3 _ (off6_eq i) (inb11 i 3 (by decide) _ (off6_eq i)) y
  · exact mem11 i 2 _ (off5_eq i) (inb11 i 2 (by decide) _ (off5_eq i)) y
  · exact mem11 i 1 _ (off4_eq i) (inb11 i 1 (by decide) _ (off4_eq i)) y
  · exact mem11 i 0 _ (off3_eq i) (inb11 i 0 (by decide) _ (off3_eq i)) y

/-- What is stored of the carried weights is the dequantised weights, at the first point. -/
theorem first_outW : View.PiecesOf (Wsp I) (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.2.2.2.2 := by
  exact (first_w I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)

/-- The stores of the carried weights cover them, at the first point. -/
theorem first_covW : ∀ y : S576x6144.Idx, ∃ p ∈ (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 Y9 Y11).1.2.2.2.2, y ∈ p.1.set := by
  exact (first_wcover I i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 H)

end Cert.KernelIdeal.Hand
end
-- ==== Proof.Args.lean ====
/- The eight arguments as what the mathematics speaks of: tokens numbered across the sequences, rows, columns. -/
module
public import proofs.«01_k».proof.Proof.Spec
@[expose] public section
noncomputable section
namespace Cert.Spec

/-- The sequence of token `n`, and its place there. -/
abbrev sq (n : Fin 1536) : Fin 2 := ⟨n.val / 768, by omega⟩
/-- The place of a token in its sequence. -/
abbrev pl (n : Fin 1536) : Fin 768 := ⟨n.val % 768, by omega⟩

/-- The arguments, indexed as the programs are handed them, as the mathematics indexes them. -/
def inpOf (a0 : Fin 2 → Fin 768 → Fin 6144 → EReal) (a1 : Fin 2 → Fin 768 → Fin 48 → EReal) (a2 : Fin 6144 → Fin 576 → EReal)
    (a3 : Fin 48 → Fin 5 → EReal) (a4 : Fin 512 → EReal) (a5 : Fin 2 → Fin 768 → BitVec 32) (a6 : Fin 2 → Fin 768 → Fin 512 → EReal)
    (a7 : Fin 2 → Fin 768 → Fin 64 → EReal) : Inp where
  x n d := a0 (sq n) (pl n) d
  xs n k := a1 (sq n) (pl n) k
  w r d := a2 d r
  ws g k := a3 k g
  gain l := a4 l
  pos n := a5 (sq n) (pl n)
  dc n l := a6 (sq n) (pl n) l
  dk n r := a7 (sq n) (pl n) r

end Cert.Spec
end
-- ==== Proof.Blocks.lean ====
/- The blocks of the launched arrays that each grid point of the kernel is handed. -/
module
public import proofs.«01_k».proof.Proof.BlockBase
public import proofs.«01_k».proof.Proof.Args
public import proofs.«01_k».proof.Proof.Gen.KernelIdeal.Frame
public import Idealize.ShloMosaic.Lib.Claim
public import Idealize.ShloMosaic.Lib.Pipeline.ValueKit
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic

variable (m : (ℓ : Loc nD τ sig) → Buf (Elt Ideal) ℓ)

/-- The arguments device `c` is launched with. -/
def inp (c : Dev nD) : Spec.Inp :=
  Spec.inpOf (fun a b d => m ((c : Thread nD τ).loc main_arg0) (ix3 a b d)) (fun a b d => m ((c : Thread nD τ).loc main_arg1) (ix3 a b d))
    (fun a b => m ((c : Thread nD τ).loc main_arg2) (ix2 a b)) (fun a b => m ((c : Thread nD τ).loc main_arg3) (ix2 a b))
    (fun a => m ((c : Thread nD τ).loc main_arg4) (ix1 a)) (fun a b => m ((c : Thread nD τ).loc main_arg5) (ix2 a b))
    (fun a b d => m ((c : Thread nD τ).loc main_arg6) (ix3 a b d)) (fun a b d => m ((c : Thread nD τ).loc main_arg7) (ix3 a b d))

/-! ## What the region finds in the arrays of its windows -/

/-- The sequence of a token number. -/
theorem sq_posIx (a : Fin 2) (b : Fin 768) : Spec.sq (posIx a b) = a := Fin.ext (by show (768 * a.val + b.val) / 768 = a.val; omega)
/-- The place of a token in its sequence. -/
theorem pl_posIx (a : Fin 2) (b : Fin 768) : Spec.pl (posIx a b) = b := Fin.ext (by show (768 * a.val + b.val) % 768 = b.val; omega)

/-- An index by sequence and place, from the token number, with a third coordinate. -/
theorem ix3_pos {n : Nat} (a : Fin 2) (b : Fin 768) (d : Fin n) : ix3 a b d = ix3 (Spec.sq (posIx a b)) (Spec.pl (posIx a b)) d := by
  rw [sq_posIx, pl_posIx]
/-- An index by sequence and place, from the token number. -/
theorem ix2_pos (a : Fin 2) (b : Fin 768) : ix2 a b = ix2 (Spec.sq (posIx a b)) (Spec.pl (posIx a b)) := by
  rw [sq_posIx, pl_posIx]

/-- The array of the tokens that the kernel's call is given. -/
theorem V_v0 (c : Dev nD) (j : S1536x6144.Idx) : V (F := Ideal) m c main_v0 j = (inp m c).x (j 0) (j 1) := by
  entry_read
  unfold inp Spec.inpOf
  pointwise

/-- The array of the tokens' scales that the kernel's call is given. -/
theorem V_v1 (c : Dev nD) (j : S2x48x768.Idx) : V (F := Ideal) m c main_v1 j = (inp m c).xs (posIx (j 0) (j 2)) (j 1) := by
  entry_read
  unfold inp Spec.inpOf
  pointwise
  exact congrArg _ (ix3_pos _ _ _)

/-- The array of the weights that the kernel's call is given. -/
theorem V_v2 (c : Dev nD) (j : S576x6144.Idx) : V (F := Ideal) m c main_v2 j = (inp m c).w (j 0) (j 1) := by
  entry_read
  unfold inp Spec.inpOf
  pointwise

/-- The array of the weights' scales that the kernel's call is given. -/
theorem V_v3 (c : Dev nD) (j : S5x48.Idx) : V (F := Ideal) m c main_v3 j = (inp m c).ws (j 0) (j 1) := by
  entry_read
  unfold inp Spec.inpOf
  pointwise

/-- The array of the gain that the kernel's call is given. -/
theorem V_v4 (c : Dev nD) (j : S1x512.Idx) : V (F := Ideal) m c main_v4 j = (inp m c).gain (j 1) := by
  entry_read
  unfold inp Spec.inpOf
  pointwise

/-- The array of the gradient of the latent's output that the kernel's call is given. -/
theorem V_v5 (c : Dev nD) (j : S1536x512.Idx) : V (F := Ideal) m c main_v5 j = (inp m c).dc (j 0) (j 1) := by
  entry_read
  unfold inp Spec.inpOf
  pointwise

/-- The array of the rotary gradient that the kernel's call is given. -/
theorem V_v6 (c : Dev nD) (j : S2x64x768.Idx) : V (F := Ideal) m c main_v6 j = (inp m c).dk (posIx (j 0) (j 2)) (j 1) := by
  entry_read
  unfold inp Spec.inpOf
  pointwise
  exact congrArg _ (ix3_pos _ _ _)

/-- Every window's block index at each point. -/
theorem idx : ∀ t : Fin cfg0.N, win0_0.index t = ![3 * (grid0.coords t 0).val + (grid0.coords t 1).val, 0]
    ∧ win0_1.index t = ![(grid0.coords t 0).val, 0, (grid0.coords t 1).val] ∧ win0_2.index t = ![0, 0] ∧ win0_3.index t = ![0, 0]
    ∧ win0_4.index t = ![0, 0] ∧ win0_5.index t = ![0, 0] ∧ win0_6.index t = ![3 * (grid0.coords t 0).val + (grid0.coords t 1).val, 0]
    ∧ win0_7.index t = ![(grid0.coords t 0).val, 0, (grid0.coords t 1).val] :=
  (by decide +kernel : ∀ t : Fin grid0.N, _)

/-- A token of a block, by sequence and place. -/
theorem posIx_tok (i : grid0.Coords) (k : Fin 256) (a : Fin 2) (b : Fin 768) (ha : a.val = (i 0).val) (hb : b.val = 256 * (i 1).val + k.val) :
    posIx a b = tok i k := Fin.ext (by show 768 * a.val + b.val = 768 * (i 0).val + 256 * (i 1).val + k.val; omega)

/-- The block of the tokens at a grid point. -/
theorem blk0 (c : Dev nD) (t : Fin cfg0.N) (j : S256x6144.Idx) : iblk m c 0 t j = (inp m c).x (tok (grid0.coords t) (j 0)) (j 1) := by
  refine (V_v0 m c _).trans (congrArg₂ _ (Fin.ext ?_) (Fin.ext ?_))
  · show (((cfg0.win 0).blk t).view.emb j 0 : Nat) = 768 * (grid0.coords t 0).val + 256 * (grid0.coords t 1).val + (j 0).val
    blk_simp [idx t]; omega
  · show (((cfg0.win 0).blk t).view.emb j 1 : Nat) = (j 1).val
    blk_simp [idx t]

/-- The block of the tokens' scales at a grid point. -/
theorem blk1 (c : Dev nD) (t : Fin cfg0.N) (j : S1x48x256.Idx) : iblk m c 1 t j = (inp m c).xs (tok (grid0.coords t) (j 2)) (j 1) := by
  have h0 := (j 0).isLt
  refine (V_v1 m c _).trans (congrArg₂ _ (posIx_tok _ _ _ _ ?_ ?_) (Fin.ext ?_))
  · show (((cfg0.win 1).blk t).view.emb j 0 : Nat) = (grid0.coords t 0).val
    blk_simp [idx t]
  · show (((cfg0.win 1).blk t).view.emb j 2 : Nat) = 256 * (grid0.coords t 1).val + (j 2).val
    blk_simp [idx t]; omega
  · show (((cfg0.win 1).blk t).view.emb j 1 : Nat) = (j 1).val
    blk_simp [idx t]

/-- The block of the weights at a grid point. -/
theorem blk2 (c : Dev nD) (t : Fin cfg0.N) (j : S576x6144.Idx) : iblk m c 2 t j = (inp m c).w (j 0) (j 1) := by
  refine (V_v2 m c _).trans (congrArg₂ _ (Fin.ext ?_) (Fin.ext ?_))
  · show (((cfg0.win 2).blk t).view.emb j 0 : Nat) = (j 0).val
    blk_simp [idx t]
  · show (((cfg0.win 2).blk t).view.emb j 1 : Nat) = (j 1).val
    blk_simp [idx t]

/-- The block of the weights' scales at a grid point. -/
theorem blk3 (c : Dev nD) (t : Fin cfg0.N) (j : S5x48.Idx) : iblk m c 3 t j = (inp m c).ws (j 0) (j 1) := by
  refine (V_v3 m c _).trans (congrArg₂ _ (Fin.ext ?_) (Fin.ext ?_))
  · show (((cfg0.win 3).blk t).view.emb j 0 : Nat) = (j 0).val
    blk_simp [idx t]
  · show (((cfg0.win 3).blk t).view.emb j 1 : Nat) = (j 1).val
    blk_simp [idx t]

/-- The block of the gain at a grid point. -/
theorem blk4 (c : Dev nD) (t : Fin cfg0.N) (j : S1x512.Idx) : iblk m c 4 t j = (inp m c).gain (j 1) := by
  refine (V_v4 m c _).trans (congrArg _ (Fin.ext ?_))
  show (((cfg0.win 4).blk t).view.emb j 1 : Nat) = (j 1).val
  blk_simp [idx t]

/-- The block of the positions at a grid point. -/
theorem blk5 (c : Dev nD) (t : Fin cfg0.N) (j : S2x768.Idx) : iblk m c 5 t j = (inp m c).pos (posIx (j 0) (j 1)) := by
  unfold iblk
  refine (congrFun (V_main_arg5 m c) _).trans ?_
  unfold inp Spec.inpOf
  refine congrArg _ (Eq.trans ?_ (ix2_pos _ _))
  blk_ext [idx t]

/-- The block of the gradient of the latent's output at a grid point. -/
theorem blk6 (c : Dev nD) (t : Fin cfg0.N) (j : S256x512.Idx) : iblk m c 6 t j = (inp m c).dc (tok (grid0.coords t) (j 0)) (j 1) := by
  refine (V_v5 m c _).trans (congrArg₂ _ (Fin.ext ?_) (Fin.ext ?_))
  · show (((cfg0.win 6).blk t).view.emb j 0 : Nat) = 768 * (grid0.coords t 0).val + 256 * (grid0.coords t 1).val + (j 0).val
    blk_simp [idx t]; omega
  · show (((cfg0.win 6).blk t).view.emb j 1 : Nat) = (j 1).val
    blk_simp [idx t]

/-- The block of the rotary gradient at a grid point. -/
theorem blk7 (c : Dev nD) (t : Fin cfg0.N) (j : S1x64x256.Idx) : iblk m c 7 t j = (inp m c).dk (tok (grid0.coords t) (j 2)) (j 1) := by
  have h0 := (j 0).isLt
  refine (V_v6 m c _).trans (congrArg₂ _ (posIx_tok _ _ _ _ ?_ ?_) (Fin.ext ?_))
  · show (((cfg0.win 7).blk t).view.emb j 0 : Nat) = (grid0.coords t 0).val
    blk_simp [idx t]
  · show (((cfg0.win 7).blk t).view.emb j 2 : Nat) = 256 * (grid0.coords t 1).val + (j 2).val
    blk_simp [idx t]; omega
  · show (((cfg0.win 7).blk t).view.emb j 1 : Nat) = (j 1).val
    blk_simp [idx t]

/-- A grid point is handed its blocks of the arguments. -/
theorem at_point (c : Dev nD) (t : Fin cfg0.N) :
    At (inp m c) (grid0.coords t) (iblk m c 0 t) (iblk m c 1 t) (iblk m c 2 t) (iblk m c 3 t) (iblk m c 4 t) (iblk m c 5 t) (iblk m c 6 t) (iblk m c 7 t) :=
  ⟨blk0 m c t, blk1 m c t, blk2 m c t, blk3 m c t, blk4 m c t, blk5 m c t, blk6 m c t, blk7 m c t⟩

end Cert.KernelIdeal.Hand
end
-- ==== Proof.Launch.lean ====
/- The kernel's run: every grid point carries the dequantised weights on and leaves its part of the four results, and the
   arguments end unchanged. -/
module

public import proofs.«01_k».proof.Proof.BlockNext
public import proofs.«01_k».proof.Proof.BlockFirst
public import proofs.«01_k».proof.Proof.Blocks
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

local notation "𝕄" => MT nD τ sig Unit (Elt Ideal) ℕ (UR sig nD τ) ℕ

/-! ## A buffer written in pieces of one function -/

/-- Pieces that cover it leave the function. -/
theorem owns_cover (c : Dev nD) {s : Shape} {e : EltTy} (M : Memref sig .tc .vmem s e) (L : List (View.Piece (Elt Ideal) s e))
    (G : s.Idx → Elt Ideal e) (hL : View.PiecesOf G L) (hc : ∀ y, ∃ p ∈ L, y ∈ p.1.set) :
    (iprop(∃ f, M.view.loc (c : Thread nD τ) ↦[M.view.set]{fullShare} M.view.writes (Elt Ideal) f L) : sProp 𝕄)
      ⊢ iprop(∃ X, ⌜∀ y, X y = G y⌝ ∗ owns (c : Thread nD τ) M fullShare X) := by
  iintro ⟨%f, H⟩
  iexists (M.view.read (Elt Ideal) (M.view.writes (Elt Ideal) f L))
  isplitr
  · ipureintro; exact fun y => View.read_writes_apply_of_pieces _ _ G L hL.mem y (hc y)
  · unfold owns; iexists _; isplitr
    swap; · iexact H
    ipureintro; rfl

/-- Pieces that cover a part of it leave the function there, and what was there elsewhere. -/
theorem owns_part (c : Dev nD) {s : Shape} {e : EltTy} (M : Memref sig .tc .vmem s e) (hM : M.IsWhole) (Y : s.Idx → Elt Ideal e)
    (L : List (View.Piece (Elt Ideal) s e)) (G : s.Idx → Elt Ideal e) (P : s.Idx → Prop) (hL : View.PiecesOf G L)
    (hc : ∀ y, (∃ p ∈ L, y ∈ p.1.set) ↔ P y) :
    (iprop(M.view.loc (c : Thread nD τ) ↦[M.view.set]{fullShare} M.view.writes (Elt Ideal) (hM.unread Y) L) : sProp 𝕄)
      ⊢ iprop(∃ X, ⌜∀ y, (P y → X y = G y) ∧ (¬P y → X y = Y y)⌝ ∗ owns (c : Thread nD τ) M fullShare X) := by
  iintro H
  iexists (M.view.read (Elt Ideal) (M.view.writes (Elt Ideal) (hM.unread Y) L))
  isplitr
  · ipureintro
    refine fun y => ⟨fun h => View.read_writes_apply_of_pieces _ _ G L hL.mem y ((hc y).mpr h), fun h => ?_⟩
    rw [View.read_writes_apply_of_forall_not_mem _ _ y L fun p hp hy => h ((hc y).mp ⟨p, hp, hy⟩)]
    exact congrFun (hM.read_unread Y) y
  · unfold owns; iexists _; isplitr
    swap; · iexact H
    ipureintro; rfl

variable (m : (ℓ : Loc nD τ sig) → Buf (Elt Ideal) ℓ) (ρ : Dev nD → PrngReg)

/-! ## What each point leaves -/

/-- What the body leaves in an output's buffer at point `t`: the two outputs written back every point, their block; the two
    that stay, the right values wherever a point up to `t` has stored. -/
def Rl (c : Dev nD) (w : Fin cfg0.W) (t : Fin cfg0.N) : ((cfg0.win w).block.Idx → Elt Ideal (cfg0.win w).elt) → Prop := match w with
  | ⟨8, _⟩ => fun X => ∀ y : S256x6144.Idx, X y = G8 (inp m c) (grid0.coords t) y
  | ⟨9, _⟩ => fun X => ∀ y : S6x2x512.Idx, (∃ u : Fin cfg0.N, u.val ≤ t.val ∧ on9 (grid0.coords u) y) → X y = G9 (inp m c) y
  | ⟨10, _⟩ => fun X => ∀ y : S1x576x256.Idx, X y = G10 (inp m c) (grid0.coords t) y
  | ⟨11, _⟩ => fun X => ∀ y : S5x2x768.Idx, (∃ u : Fin cfg0.N, u.val ≤ t.val ∧ on11 (grid0.coords u) y) → X y = G11 (inp m c) y
  | _ => fun _ => True

/-- The invariant before position `n`: before the first point every scratch holds anything; afterwards the carried scratch
    holds the dequantised weights. -/
def PhiS (c : Dev nD) : (n : ℕ) → n ≤ cfg0.N → sProp 𝕄
  | 0, _ => Pipeline.ΦA spec0 c
  | n + 1, hn => iprop(iprop(owns (c : Thread nD τ) scM0_0 fullShare (Wsp (inp m c)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- Before the first point the carried scratch may hold anything. -/
theorem PhiS_zero (c : Dev nD) (n : ℕ) (h : n ≤ cfg0.N) (hz : n = 0) : PhiS m c n h = Pipeline.ΦA spec0 c := by
  subst hz; rfl

/-- After a point the carried scratch holds what that point left. -/
theorem PhiS_pos (c : Dev nD) (n : ℕ) (h : n ≤ cfg0.N) (hz : n ≠ 0) :
    PhiS m c n h = iprop(iprop(owns (c : Thread nD τ) scM0_0 fullShare (Wsp (inp m c)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows: what the body leaves in them is held to `Rl`. -/
def outs0 : Fin 12 → Bool := fun w => w.val == 8 || w.val == 9 || w.val == 10 || w.val == 11

/-- The proof data of the pipeline on core `c`: the arrays as the region finds them, each input's buffer at its block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- Window 1's buffer still holds its block when the body ends. -/
theorem after0_1 (c : Dev nD) (t : Fin cfg0.N) : (dats m 0 c).after 1 t = iblk m c 1 t := by dsimp only [dats]
/-- Window 2's buffer still holds its block when the body ends. -/
theorem after0_2 (c : Dev nD) (t : Fin cfg0.N) : (dats m 0 c).after 2 t = iblk m c 2 t := by dsimp only [dats]
/-- Window 3's buffer still holds its block when the body ends. -/
theorem after0_3 (c : Dev nD) (t : Fin cfg0.N) : (dats m 0 c).after 3 t = iblk m c 3 t := by dsimp only [dats]
/-- Window 4's buffer still holds its block when the body ends. -/
theorem after0_4 (c : Dev nD) (t : Fin cfg0.N) : (dats m 0 c).after 4 t = iblk m c 4 t := by dsimp only [dats]
/-- Window 5's buffer still holds its block when the body ends. -/
theorem after0_5 (c : Dev nD) (t : Fin cfg0.N) : (dats m 0 c).after 5 t = iblk m c 5 t := by dsimp only [dats]
/-- Window 6's buffer still holds its block when the body ends. -/
theorem after0_6 (c : Dev nD) (t : Fin cfg0.N) : (dats m 0 c).after 6 t = iblk m c 6 t := by dsimp only [dats]
/-- Window 7's buffer still holds its block when the body ends. -/
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1's buffer holds its block when the body starts. -/
theorem before0_1 (c : Dev nD) (t : Fin cfg0.N) (d) : (dats m 0 c).before 1 t d = iblk m c 1 t :=
  before0_1_of m (dats m 0 c) (A_eq m c 1) (after0_1 m c) t d
/-- Window 2's buffer holds its block when the body starts. -/
theorem before0_2 (c : Dev nD) (t : Fin cfg0.N) (d) : (dats m 0 c).before 2 t d = iblk m c 2 t :=
  before0_2_of m (dats m 0 c) (A_eq m c 2) (after0_2 m c) t d
/-- Window 3's buffer holds its block when the body starts. -/
theorem before0_3 (c : Dev nD) (t : Fin cfg0.N) (d) : (dats m 0 c).before 3 t d = iblk m c 3 t :=
  before0_3_of m (dats m 0 c) (A_eq m c 3) (after0_3 m c) t d
/-- Window 4's buffer holds its block when the body starts. -/
theorem before0_4 (c : Dev nD) (t : Fin cfg0.N) (d) : (dats m 0 c).before 4 t d = iblk m c 4 t :=
  before0_4_of m (dats m 0 c) (A_eq m c 4) (after0_4 m c) t d
/-- Window 5's buffer holds its block when the body starts. -/
theorem before0_5 (c : Dev nD) (t : Fin cfg0.N) (d) : (dats m 0 c).before 5 t d = iblk m c 5 t :=
  before0_5_of m (dats m 0 c) (A_eq m c 5) (after0_5 m c) t d
/-- Window 6's buffer holds its block when the body starts. -/
theorem before0_6 (c : Dev nD) (t : Fin cfg0.N) (d) : (dats m 0 c).before 6 t d = iblk m c 6 t :=
  before0_6_of m (dats m 0 c) (A_eq m c 6) (after0_6 m c) t d
/-- Window 7's buffer holds its block when the body starts. -/
theorem before0_7 (c : Dev nD) (t : Fin cfg0.N) (d) : (dats m 0 c).before 7 t d = iblk m c 7 t :=
  before0_7_of m (dats m 0 c) (A_eq m c 7) (after0_7 m c) t d

/-- The data with the outputs held to `Rl`. -/
abbrev rdat (c : Dev nD) := (dats m 0 c).toRRel outs0 (Rl m c)

/-- A buffer that stays is neither fetched nor written back before the last point. -/
theorem stay9 : ∀ t : Fin cfg0.N, (cfg0.win 9).fetch t = false ∧ (t.val ≠ 5 → (cfg0.win 9).flush t = false) :=
  (by decide +kernel : ∀ t : Fin grid0.N, _)
/-- The scales' buffer is never fetched and is flushed after the last point only. -/
theorem stay11 : ∀ t : Fin cfg0.N, (cfg0.win 11).fetch t = false ∧ (t.val ≠ 5 → (cfg0.win 11).flush t = false) :=
  (by decide +kernel : ∀ t : Fin grid0.N, _)

/-- The point before. -/
abbrev prev (t : Fin cfg0.N) : Fin cfg0.N := ⟨t.val - 1, Nat.lt_of_le_of_lt (Nat.sub_le _ _) t.isLt⟩

/-- A later point finds the gain's gradient as the point before left it. -/
theorem found9 (c : Dev nD) (t : Fin cfg0.N) (ht : t.val ≠ 0) (Y) (h : (rdat m c).Finds 9 t Y) : Rl m c 9 (prev t) Y := by
  have hN : t.val < 6 := lt_of_lt_of_eq t.isLt (show cfg0.N = 6 from N_0)
  rcases ((rdat m c).finds_of_pos (stay9 t).1 ht Y).mp h with h' | h'
  · rw [(stay9 (prev t)).2 (by show t.val - 1 ≠ 5; omega)] at h'; cases h'
  · exact Pipeline.Dat.toRRel_leaves _ rfl h'

/-- A later point finds the scales as the point before left them. -/
theorem found11 (c : Dev nD) (t : Fin cfg0.N) (ht : t.val ≠ 0) (Y) (h : (rdat m c).Finds 11 t Y) : Rl m c 11 (prev t) Y := by
  have hN : t.val < 6 := lt_of_lt_of_eq t.isLt (show cfg0.N = 6 from N_0)
  rcases ((rdat m c).finds_of_pos (stay11 t).1 ht Y).mp h with h' | h'
  · rw [(stay11 (prev t)).2 (by show t.val - 1 ≠ 5; omega)] at h'; cases h'
  · exact Pipeline.Dat.toRRel_leaves _ rfl h'

/-- A buffer that stays is right after point `t` where it was right before and where point `t` has stored. -/
theorem upto_step {s : Shape} (on : grid0.Coords → s.Idx → Prop) (t : Fin cfg0.N) (X Y G : s.Idx → EReal)
    (hX : ∀ y, (on (grid0.coords t) y → X y = G y) ∧ (¬on (grid0.coords t) y → X y = Y y))
    (hY : t.val ≠ 0 → ∀ y, (∃ u : Fin cfg0.N, u.val ≤ t.val - 1 ∧ on (grid0.coords u) y) → Y y = G y) (y : s.Idx)
    (h : ∃ u : Fin cfg0.N, u.val ≤ t.val ∧ on (grid0.coords u) y) : X y = G y := by
  by_cases ht : on (grid0.coords t) y
  · exact (hX y).1 ht
  · obtain ⟨u, hu, ho⟩ := h
    have hne : u.val ≠ t.val := fun e => ht (by rw [← Fin.ext e]; exact ho)
    rw [(hX y).2 ht]
    exact hY (by omega) y ⟨u, by omega, ho⟩

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X))

set_option maxHeartbeats 12800000 in
/-- The body at any point: the first point's run or a later point's, on the blocks the point is handed; each output is left
    as `Rl` says and the carried scratch with the dequantised weights. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_pos m c _ _ (Nat.succ_ne_zero _)]
  have hN : t.val < 6 := lt_of_lt_of_eq t.isLt (show cfg0.N = 6 from N_0)
  by_cases h0 : t.val % 6 = 0
  · have hz : t.val = 0 := by omega
    · rw [PhiS_castSucc m c t, PhiS_zero m c _ _ hz, PhiA0_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, -, H8⟩, ⟨%Y9, %hY9, H9⟩, ⟨%Y10, -, H10⟩, ⟨%Y11, %hY11, H11⟩⟩
      iapply ((runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) Y9 Y11).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      isplitl [H11]; · iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, HS0, HS1, HS2, HS3, HS4⟩
      ihave H8 := (owns_cover c (ms0_8 t) _ _ (first_out8 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11) (first_cov8 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11)) $$ H8
      ihave H9 := (owns_part c (ms0_9 t) (hs0_9 t) _ _ _ _ (first_out9 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11) (first_mem9 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11)) $$ H9
      ihave H10 := (owns_cover c (ms0_10 t) _ _ (first_out10 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11) (first_cov10 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11)) $$ H10
      ihave H11 := (owns_part c (ms0_11 t) (hs0_11 t) _ _ _ _ (first_out11 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11) (first_mem11 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11)) $$ H11
      ihave HS0 := (owns_cover c scM0_0 _ _ (first_outW (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11) (first_covW (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (at_point m c t) ((hcond0_0 t).mpr h0) Y9 Y11)) $$ HS0
      icases HS0 with ⟨%W, %hW, HS0⟩
      obtain rfl : W = Wsp (inp m c) := funext hW
      icases H8 with ⟨%X8, %hX8, H8⟩
      icases H9 with ⟨%X9, %hX9, H9⟩
      icases H10 with ⟨%X10, %hX10, H10⟩
      icases H11 with ⟨%X11, %hX11, H11⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · iexists _; isplitr
        swap; · iexact H8
        ipureintro; exact hX8
      isplitl [H9]
      · iexists _; isplitr
        swap; · iexact H9
        ipureintro; exact upto_step on9 t X9 Y9 _ hX9 fun hz => found9 m c t hz Y9 hY9
      isplitl [H10]
      · iexists _; isplitr
        swap; · iexact H10
        ipureintro; exact hX10
      iexists _; isplitr
      swap; · iexact H11
      ipureintro; exact upto_step on11 t X11 Y11 _ hX11 fun hz => found11 m c t hz Y11 hY11
  · have hz : t.val ≠ 0 := fun h => h0 (by omega)
    · rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, -, H8⟩, ⟨%Y9, %hY9, H9⟩, ⟨%Y10, -, H10⟩, ⟨%Y11, %hY11, H11⟩⟩
      iapply ((runNext (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (Wsp (inp m c)) Y9 Y11).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      isplitl [H11]; · iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, HS0, HS1, HS2, HS3, HS4⟩
      ihave H8 := (owns_cover c (ms0_8 t) _ _ (next_out8 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (Wsp (inp m c)) (fun _ => rfl) (at_point m c t) (fun h => h0 ((hcond0_0 t).mp h)) Y9 Y11) (next_cov8 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (Wsp (inp m c)) (fun _ => rfl) (at_point m c t) (fun h => h0 ((hcond0_0 t).mp h)) Y9 Y11)) $$ H8
      ihave H9 := (owns_part c (ms0_9 t) (hs0_9 t) _ _ _ _ (next_out9 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (Wsp (inp m c)) (fun _ => rfl) (at_point m c t) (fun h => h0 ((hcond0_0 t).mp h)) Y9 Y11) (next_mem9 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (Wsp (inp m c)) (fun _ => rfl) (at_point m c t) (fun h => h0 ((hcond0_0 t).mp h)) Y9 Y11)) $$ H9
      ihave H10 := (owns_cover c (ms0_10 t) _ _ (next_out10 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (Wsp (inp m c)) (fun _ => rfl) (at_point m c t) (fun h => h0 ((hcond0_0 t).mp h)) Y9 Y11) (next_cov10 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (Wsp (inp m c)) (fun _ => rfl) (at_point m c t) (fun h => h0 ((hcond0_0 t).mp h)) Y9 Y11)) $$ H10
      ihave H11 := (owns_part c (ms0_11 t) (hs0_11 t) _ _ _ _ (next_out11 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (Wsp (inp m c)) (fun _ => rfl) (at_point m c t) (fun h => h0 ((hcond0_0 t).mp h)) Y9 Y11) (next_mem11 (inp m c) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (Wsp (inp m c)) (fun _ => rfl) (at_point m c t) (fun h => h0 ((hcond0_0 t).mp h)) Y9 Y11)) $$ H11
      icases H8 with ⟨%X8, %hX8, H8⟩
      icases H9 with ⟨%X9, %hX9, H9⟩
      icases H10 with ⟨%X10, %hX10, H10⟩
      icases H11 with ⟨%X11, %hX11, H11⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · iexists _; isplitr
        swap; · iexact H8
        ipureintro; exact hX8
      isplitl [H9]
      · iexists _; isplitr
        swap; · iexact H9
        ipureintro; exact upto_step on9 t X9 Y9 _ hX9 fun hz => found9 m c t hz Y9 hY9
      isplitl [H10]
      · iexists _; isplitr
        swap; · iexact H10
        ipureintro; exact hX10
      iexists _; isplitr
      swap; · iexact H11
      ipureintro; exact upto_step on11 t X11 Y11 _ hX11 fun hz => found11 m c t hz Y11 hY11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationRel (dats m 0 c) (defs₀ (F := Ideal)) Variants.none () Set.univ outs0 (Rl m c) := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- the launch lemma's implicit arguments are found by unifying its conclusion with this one, which takes unfolding plain
-- definitions in a metavariable's type
set_option backward.isDefEq.respectTransparency.types false in
/-- The launch, at any proof data whose body obligation holds with some outputs held to a predicate. -/
theorem run_rel (dats : (p : Fin 1) → (c : Dev nD) → Dat τ (Elt Ideal) Unit ℕ (UR sig nD τ) ℕ (cfgs p) c) (fgt : Fin (cfgs 0).W → Bool)
    (Rl : (c : Dev nD) → (w : Fin (cfgs 0).W) → Fin (cfgs 0).N → (((cfgs 0).win w).block.Idx → Elt Ideal ((cfgs 0).win w).elt) → Prop)
    (hbody : ∀ c, BodyObligationRel (dats 0 c) (defs₀ (F := Ideal)) Variants.none () Set.univ fgt (Rl c))
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last (cfgs 0).N) ⊢ Pipeline.ΦA spec0 c) :
    θ_run defs (onTc (τ := τ) (main (F := Ideal))) (s₀ m ρ)
      (fun r => Pipeline.RDat.FramePost (cfgs 0) (fun c => (dats 0 c).toRRel fgt (Rl c)) (V m) r ∧ r.2.sem = fun _ => 0) :=
  Pipeline.RDat.θ_run_frame_track cfgs (0 : Fin 1) launch0 defs₀ Variants.none (fun c => (dats 0 c).toRRel fgt (Rl c)) m ρ main
    (hbody := fun c => (hbody c).toRRel) (hshare := hshare) (howed := howed) (V := V m) (hmain := hmain m Variants.none) (hA := hA)
    (hin := hin) (hout := hout) (Q' := _) (hQ' := fun _ h => h)

/-- Every run of the kernel ends, with the inputs' arrays unchanged, the outputs' as `Rl` has it, and every counter at zero. -/
theorem run_main : θ_run defs (onTc (τ := τ) (main (F := Ideal))) (s₀ m ρ)
    (fun r => Pipeline.RDat.FramePost (cfgs 0) (fun c => (dats m 0 c).toRRel outs0 (Rl m c)) (V m) r ∧ r.2.sem = fun _ => 0) :=
  run_rel m ρ (dats m) outs0 (Rl m) (body_obligation m) (fun c => (dats m 0 c).share_full fun _ => rfl) (fun _ _ => rfl) (A_eq m)
    (hin m) (hout m)

/-- The arguments after a run whose arrays are as the region found them. -/
theorem args_kept (rdat : (c : Dev nD) → Pipeline.RDat τ (Elt Ideal) Unit ℕ (UR sig nD τ) ℕ (cfgs 0) c)
    (hA : ∀ c w, (rdat c).A w = V m c (Pipeline.arrRef spec0 w)) (r : PUnit × MemSt nD τ sig (Elt Ideal))
    (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (Pipeline.RDat.FramePost.arr_in h c 5 rfl).trans ((hA c 5).trans (V_main_arg5 m c)),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- THE FRAME: the argument arrays end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_kept m (fun c => (dats m 0 c).toRRel outs0 (Rl m c)) (A_eq m) r h.1, h.2⟩) (run_main m ρ)

end Cert.KernelIdeal.Hand

end
-- ==== Proof.KernelValue.lean ====
/- The kernel's four results after any run, over the inputs alone. -/
module

public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable (m : (ℓ : Loc nD τ sig) → Buf (Elt Ideal) ℓ) (ρ : Dev nD → PrngReg)

/-! ## The four results -/

/-- The gradient with respect to the input, -/
def R0 (I : Spec.Inp) : S1536x6144.Idx → EReal := fun y => Spec.dx I (y 0) (y 1)
/-- the partial sums of the gain's gradient, -/
def R1 (I : Spec.Inp) : S6x2x512.Idx → EReal := fun y => Spec.dgain I (y 0) (y 1) (y 2)
/-- the codes, one row a channel, -/
def R2 (I : Spec.Inp) : S2x576x768.Idx → EReal := fun y => Spec.code I (posIx (y 0) (y 2)) (y 1)
/-- and the scales, one row a group. -/
def R3 (I : Spec.Inp) : S5x2x768.Idx → EReal := fun y => Spec.scale I (posIx (y 1) (y 2)) (y 0)

/-- Some point has any pair of coordinates. -/
theorem exists_point : ∀ (a : Fin 2) (b : Fin 3), ∃ u : Fin cfg0.N, ((grid0.coords u) 0).val = a.val ∧ ((grid0.coords u) 1).val = b.val :=
  (by decide +kernel : ∀ (a : Fin 2) (b : Fin 3), ∃ u : Fin grid0.N, ((grid0.coords u) 0).val = a.val ∧ ((grid0.coords u) 1).val = b.val)

/-- The output windows' index maps, decided per point and per axis. -/
theorem idxO : ∀ t : Fin cfg0.N, win0_8.index t = ![3 * (grid0.coords t 0).val + (grid0.coords t 1).val, 0]
    ∧ win0_9.index t = ![0, 0, 0]
    ∧ win0_10.index t = ![(grid0.coords t 0).val, 0, (grid0.coords t 1).val]
    ∧ win0_11.index t = ![0, 0, 0] :=
  (by decide +kernel : ∀ t : Fin grid0.N, win0_8.index t = ![3 * (grid0.coords t 0).val + (grid0.coords t 1).val, 0]
    ∧ win0_9.index t = ![0, 0, 0]
    ∧ win0_10.index t = ![(grid0.coords t 0).val, 0, (grid0.coords t 1).val]
    ∧ win0_11.index t = ![0, 0, 0])

/-- The last point. -/
abbrev tlast : Fin cfg0.N := ⟨5, by decide⟩

/-- The coordinates are in range. -/
theorem crd0 (t : Fin cfg0.N) : ((grid0.coords t) 0).val < 2 := ((grid0.coords t) 0).isLt
/-- The grid's second coordinate is below 3. -/
theorem crd1 (t : Fin cfg0.N) : ((grid0.coords t) 1).val < 3 := ((grid0.coords t) 1).isLt

section
variable (c : Dev nD) (after : (w : Fin cfg0.W) → Fin cfg0.N → ((cfg0.win w).block.Idx → Elt Ideal (cfg0.win w).elt))

/-- The array of the input's gradient after the last point is the stated one. -/
theorem arr8 (h : ∀ t, (cfg0.win 8).flush t = true → Rl m c 8 t (after 8 t)) :
    ((rdat m c).withAfter after).arrAt 8 cfg0.N = R0 (inp m c) := by
  refine ((rdat m c).withAfter after).arrAt_eq_of_covers 8 _ (by decide +kernel) fun t hf y => ?_
  refine Eq.trans (h t hf ((cfg0.win 8).xinj (grid0.coords t) y)) (congrArg₂ (Spec.dx (inp m c)) (Fin.ext ?_) (Fin.ext ?_))
  · show 768 * (grid0.coords t 0).val + 256 * (grid0.coords t 1).val + (y 0).val = (((cfg0.win 8).blk t).view.emb y 0 : Nat)
    blk_simp [idxO t]; omega
  · show (y 1).val = (((cfg0.win 8).blk t).view.emb y 1 : Nat)
    blk_simp [idxO t]

/-- The array of the gain's gradient after the last point is the stated one. -/
theorem arr9 (h : ∀ t, (cfg0.win 9).flush t = true → Rl m c 9 t (after 9 t)) :
    ((rdat m c).withAfter after).arrAt 9 cfg0.N = R1 (inp m c) := by
  refine ((rdat m c).withAfter after).arrAt_eq_of_after_last 9 tlast (by decide +kernel) _ fun y => ?_
  have h0 : (y 0).val < 6 := (y 0).isLt
  obtain ⟨u, hu0, hu1⟩ := exists_point (y 1) ⟨(y 0).val / 2, by omega⟩
  have hu : u.val < 6 := lt_of_lt_of_eq u.isLt (show cfg0.N = 6 from N_0)
  exact h tlast (by decide +kernel) y ⟨u, by show u.val ≤ 5; omega, hu0.symm, hu1.symm⟩

/-- The array of the codes after the last point is the stated one. -/
theorem arr10 (h : ∀ t, (cfg0.win 10).flush t = true → Rl m c 10 t (after 10 t)) :
    ((rdat m c).withAfter after).arrAt 10 cfg0.N = R2 (inp m c) := by
  refine ((rdat m c).withAfter after).arrAt_eq_of_covers 10 _ (by decide +kernel) fun t hf y => ?_
  have h0 : (y 0).val < 1 := (y 0).isLt
  refine Eq.trans (h t hf ((cfg0.win 10).xinj (grid0.coords t) y)) (congrArg₂ (Spec.code (inp m c)) (posIx_tok _ _ _ _ ?_ ?_).symm (Fin.ext ?_))
  · show (((cfg0.win 10).blk t).view.emb y 0 : Nat) = (grid0.coords t 0).val
    blk_simp [idxO t]
  · show (((cfg0.win 10).blk t).view.emb y 2 : Nat) = 256 * (grid0.coords t 1).val + (y 2).val
    blk_simp [idxO t]; omega
  · show (y 1).val = (((cfg0.win 10).blk t).view.emb y 1 : Nat)
    blk_simp [idxO t]

/-- The array of the scales after the last point is the stated one. -/
theorem arr11 (h : ∀ t, (cfg0.win 11).flush t = true → Rl m c 11 t (after 11 t)) :
    ((rdat m c).withAfter after).arrAt 11 cfg0.N = R3 (inp m c) := by
  refine ((rdat m c).withAfter after).arrAt_eq_of_after_last 11 tlast (by decide +kernel) _ fun y => ?_
  have h0 : (y 2).val < 768 := (y 2).isLt
  obtain ⟨u, hu0, hu1⟩ := exists_point (y 1) ⟨(y 2).val / 256, by omega⟩
  have hu : u.val < 6 := lt_of_lt_of_eq u.isLt (show cfg0.N = 6 from N_0)
  exact h tlast (by decide +kernel) y ⟨u, by show u.val ≤ 5; omega, hu0.symm, hu1.symm⟩

end

/-- THE VALUES: every run of the kernel ends with its four results the functions of the inputs above, and the arguments
    unchanged. -/
theorem run_value : θ_run defs (onTc (τ := τ) (main (F := Ideal))) ⟨m, fun _ => 0, ρ⟩ (fun r => ∀ c : Dev nD,
    (r.2.mem ((c.tc : Thread nD τ).loc main_v7_0) = R0 (inp m c)
      ∧ r.2.mem ((c.tc : Thread nD τ).loc main_v7_1) = R1 (inp m c)
      ∧ r.2.mem ((c.tc : Thread nD τ).loc main_v7_2) = R2 (inp m c)
      ∧ r.2.mem ((c.tc : Thread nD τ).loc main_v7_3) = R3 (inp m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) := by
  refine (θ_run defs _ _).mono (fun r h c => ⟨?_, args_kept m (fun c => (dats m 0 c).toRRel outs0 (Rl m c)) (A_eq m) r h.1 c⟩) (run_main m ρ)
  obtain ⟨after, hl, ha⟩ := Pipeline.RDat.FramePost.exists_exact h.1 c
  exact ⟨(ha 8).trans (arr8 m c after fun t ht => Pipeline.Dat.toRRel_leaves _ rfl (hl 8 t ht)),
    (ha 9).trans (arr9 m c after fun t ht => Pipeline.Dat.toRRel_leaves _ rfl (hl 9 t ht)),
    (ha 10).trans (arr10 m c after fun t ht => Pipeline.Dat.toRRel_leaves _ rfl (hl 10 t ht)),
    (ha 11).trans (arr11 m c after fun t ht => Pipeline.Dat.toRRel_leaves _ rfl (hl 11 t ht))⟩

end Cert.KernelIdeal.Hand

end
-- ==== Proof.RefPays.lean ====
/- The values the reference stores, index by index, in the terms of the token-level statement. -/
module
public import proofs.«01_k».proof.Proof.Gen.ReferenceIdeal.Skeleton
public import proofs.«01_k».proof.Proof.Spec
public import Idealize.ShloMosaic.Lib.Pointwise
@[expose] public section
set_option maxRecDepth 16384
noncomputable section
namespace Cert.ReferenceIdeal.Hand
open Cert.ReferenceIdeal Cert.ReferenceIdeal.Gen
open Idealize.ShloMosaic Idealize.ShloMosaic.Tactic
open scoped BigOperators

/-- The group of a row; the block of a column. -/
abbrev g5 (r : Fin 576) : Fin 5 := ⟨r.val / 128, by omega⟩
/-- The block of 128 in which a channel lies. -/
abbrev b48 (d : Fin 6144) : Fin 48 := ⟨d.val / 128, by omega⟩
/-- Row `k` of group `g`. -/
abbrev row (g : Fin 4) (k : Fin 128) : Fin 512 := ⟨128 * g.val + k.val, by omega⟩

variable (I : Spec.Inp)

/-- What the region is handed. -/
structure At (x0 : Vec Ideal S1536x6144 .fp8e4m3) (x1 : Vec Ideal S1536x6144 .bf16) (x2 : Vec Ideal S6144x576 .fp8e4m3)
    (x3 : Vec Ideal S6144x576 .bf16) (x4 : Vec Ideal S1x512 .f32) (x5 : Vec Ideal S1536x512 .bf16) (x6 : Vec Ideal S1536x64 .f32) : Prop where
  h0 : ∀ j, x0 j = I.x (j 0) (j 1)
  h1 : ∀ j, x1 j = I.xs (j 0) (b48 (j 1))
  h2 : ∀ j, x2 j = I.w (j 1) (j 0)
  h3 : ∀ j, x3 j = I.ws (g5 (j 1)) (b48 (j 0))
  h4 : ∀ j, x4 j = I.gain (j 1)
  h5 : ∀ j, x5 j = I.dc (j 0) (j 1)
  h6 : ∀ j, x6 j = Spec.rot I (j 0) (j 1)

section
variable {x0 : Vec Ideal S1536x6144 .fp8e4m3} {x1 : Vec Ideal S1536x6144 .bf16} {x2 : Vec Ideal S6144x576 .fp8e4m3}
  {x3 : Vec Ideal S6144x576 .bf16} {x4 : Vec Ideal S1x512 .f32} {x5 : Vec Ideal S1536x512 .bf16} {x6 : Vec Ideal S1536x64 .f32}
  (H : At I x0 x1 x2 x3 x4 x5 x6)
include H

/-! ## The latent and its backward pass -/

/-- The dequantised weights. -/
theorem pay1_at (j : S6144x576.Idx) : k0_pay1 (F := Ideal) x2 x3 j = Spec.wq I (j 1) (j 0) := by
  unfold k0_pay1
  pointwise
  rw [H.h2, H.h3]
  rfl

/-- The latent's columns of the weights. -/
theorem pay2_at (j : S6144x512.Idx) : k0_pay2 (F := Ideal) x2 x3 j = Spec.wq I ⟨(j 1).val, Nat.lt_of_lt_of_le (j 1).isLt (by decide)⟩ (j 0) := by
  unfold k0_pay2
  pointwise
  rw [pay1_at I H]
  rfl

/-- The rotary columns of the weights. -/
theorem pay3_at (j : S6144x64.Idx) : k0_pay3 (F := Ideal) x2 x3 j = Spec.wq I ⟨512 + (j 1).val, Nat.add_lt_add_left (j 1).isLt 512⟩ (j 0) := by
  unfold k0_pay3
  pointwise
  rw [pay1_at I H]
  rfl

/-- The latent, recomputed. -/
theorem pay4_at (j : S1536x512.Idx) : k0_pay4 (F := Ideal) x0 x1 x2 x3 j = Spec.cL I (j 0) (j 1) := by
  unfold k0_pay4
  pointwise
  simp only [pay2_at I H, H.h0, H.h1]
  exact Finset.sum_congr rfl fun d _ => mul_comm _ _

/-- The gradient of the latent's output. -/
theorem pay5_at (j : S1536x512.Idx) : k0_pay5 (F := Ideal) x5 j = I.dc (j 0) (j 1) := by
  unfold k0_pay5
  pointwise
  rw [H.h5]

/-- The reciprocal root mean square of each token. -/
theorem pay6_at (j : S1536x1.Idx) : k0_pay6 (F := Ideal) x0 x1 x2 x3 j = Spec.rstd I (j 0) := by
  unfold k0_pay6
  pointwise
  simp only [pay4_at I H]
  rfl

/-- The gain's gradient, summed over blocks of 128 tokens. -/
theorem pay7_at (j : S2x6x512.Idx) : k0_pay7 (F := Ideal) x0 x1 x2 x3 x5 j = Spec.dgain I (j 1) (j 0) (j 2) := by
  unfold k0_pay7
  pointwise
  simp only [pay4_at I H, pay5_at I H, pay6_at I H]
  rfl

/-- The gradient of the normalised latent. -/
theorem pay8_at (j : S1536x512.Idx) : k0_pay8 (F := Ideal) x5 x4 j = I.dc (j 0) (j 1) * I.gain (j 1) := by
  unfold k0_pay8
  pointwise
  rw [pay5_at I H, H.h4]
  rfl

/-- The latent times the squared reciprocal root mean square. -/
theorem pay9_at (j : S1536x512.Idx) : k0_pay9 (F := Ideal) x0 x1 x2 x3 j = Spec.cL I (j 0) (j 1) * (Spec.rstd I (j 0) * Spec.rstd I (j 0)) := by
  unfold k0_pay9
  pointwise
  rw [pay4_at I H, pay6_at I H]
  rfl

/-- The sum over a token of its normalised gradient times its latent. -/
theorem pay10_at (j : S1536x1.Idx) : k0_pay10 (F := Ideal) x0 x1 x2 x3 x5 x4 j = ∑ l, I.dc (j 0) l * I.gain l * Spec.cL I (j 0) l := by
  unfold k0_pay10
  pointwise
  simp only [pay4_at I H, pay8_at I H]
  rfl

/-- The rotary backward pass, as given. -/
theorem pay11_at (j : S1536x64.Idx) : k0_pay11 (F := Ideal) x6 j = Spec.rot I (j 0) (j 1) := by
  unfold k0_pay11
  pointwise
  rw [H.h6]

end

/-! ## The quantiser -/

/-- A choice by two conditions at once. -/
theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-- The exponent as the reference's operations spell it. -/
theorem refE_of (u v : EReal) (h : u = v) :
    Scalar.select (IntOp.andi (BitVec.ofBool (decide (Ideal.ofBits .f32 0x00800000#32 ≤ u))) (BitVec.ofBool (decide (u < Ideal.ofBits .f32 0x78000000#32))))
      (Finset.fold max (Ideal.ofBits .f32 0xFF800000#32) (fun x : Fin 256 =>
        if FloatOps.exp2 (F := Ideal) (φ := .f32) (FloatOps.sitofp (F := Ideal) .f32 (BitVec.ofNat 32 x.val) - Ideal.ofBits .f32 0x42FA0000#32 - 1) ≤ u
        then FloatOps.sitofp (F := Ideal) .f32 (BitVec.ofNat 32 x.val) - Ideal.ofBits .f32 0x42FA0000#32 else Ideal.ofBits .f32 0xC2FA0000#32) Finset.univ) 0
      = Spec.refE v := by
  subst h
  rw [select_and]
  unfold Spec.refE
  have hs : ∀ x : Fin 256, FloatOps.sitofp (F := Ideal) .f32 (BitVec.ofNat 32 x.val) = (((x : ℕ) : ℝ) : EReal) := fun x => by
    have h : (BitVec.ofNat 32 x.val).toInt = (x.val : ℤ) := by
      have := x.isLt
      rw [BitVec.toInt_eq_toNat_of_lt] <;> rw [BitVec.toNat_ofNat] <;> omega
    show (((BitVec.ofNat 32 x.val).toInt : ℝ) : EReal) = _
    rw [h]
    norm_num
  simp only [hs, Spec.c1]
  rfl

section
variable {v26 : FVec Ideal S1536x1 .f32} {v35 v38 : FVec Ideal S1536x512 .f32} {v41 : FVec Ideal S1536x1 .f32} {v49 : Vec Ideal S1536x64 .f32}
  (h26 : ∀ j, v26 j = Spec.rstd I (j 0)) (h35 : ∀ j, v35 j = I.dc (j 0) (j 1) * I.gain (j 1))
  (h38 : ∀ j, v38 j = Spec.cL I (j 0) (j 1) * (Spec.rstd I (j 0) * Spec.rstd I (j 0)))
  (h41 : ∀ j, v41 j = ∑ l, I.dc (j 0) l * I.gain l * Spec.cL I (j 0) l)
  (h49 : ∀ j, v49 j = Spec.rot I (j 0) (j 1))
include h26 h35 h38 h41

/-- The gradient of the latent, by groups. -/
theorem pay12_at (j : S1536x4x128.Idx) : k0_pay12 v26 v35 v38 v41 j = Spec.dcg I (j 0) (row (j 1) (j 2)) := by
  unfold k0_pay12
  pointwise
  rw [h26, h35, h38, h41]
  have e : (⟨(j 1).val * 128 + (j 2).val, by have h1 : (j 1).val < 4 := (j 1).isLt; have h2 : (j 2).val < 128 := (j 2).isLt; omega⟩ : Fin 512) = row (j 1) (j 2) :=
    Fin.ext (by show (j 1).val * 128 + (j 2).val = 128 * (j 1).val + (j 2).val; omega)
  show Spec.rstd I (j 0) * (I.dc (j 0) ⟨(j 1).val * 128 + (j 2).val, _⟩ * I.gain ⟨(j 1).val * 128 + (j 2).val, _⟩
    - Spec.cL I (j 0) ⟨(j 1).val * 128 + (j 2).val, _⟩ * (Spec.rstd I (j 0) * Spec.rstd I (j 0)) * _) = _
  rw [e]
  rfl

include h49

/-- The exponent of each group. -/
theorem pay13_at (j : S1536x5.Idx) : k0_pay13 v26 v35 v38 v41 v49 j = Spec.refE (Spec.vv I (j 0) (j 1)) := by
  unfold k0_pay13 k0_pay11
  pointwise
  simp only [pay12_at I h26 h35 h38 h41, h49]
  exact refE_of _ _ rfl

/-- The scale of each group. -/
theorem pay14_at (j : S1536x5.Idx) : k0_pay14 v26 v35 v38 v41 v49 j = Spec.scale I (j 0) (j 1) := by
  unfold k0_pay14
  pointwise
  rw [pay13_at I h26 h35 h38 h41 h49]
  exact (Spec.scaleOf_eq _).symm

/-- The inverse scale of each group. -/
theorem pay15_at (j : S1536x5.Idx) : k0_pay15 v26 v35 v38 v41 v49 j = Spec.invOf (Spec.vv I (j 0) (j 1)) := by
  unfold k0_pay15
  pointwise
  rw [pay13_at I h26 h35 h38 h41 h49]
  exact (Spec.invOf_eq _).symm

/-- The gradient of the latent times its group's inverse scale. -/
theorem pay16_at (j : S1536x4x128.Idx) :
    k0_pay16 v26 v35 v38 v41 v49 j = Spec.dcg I (j 0) (row (j 1) (j 2)) * Spec.invOf (Spec.vv I (j 0) ⟨(j 1).val, Nat.lt_of_lt_of_le (j 1).isLt (by decide)⟩) := by
  unfold k0_pay16
  pointwise
  rw [pay12_at I h26 h35 h38 h41, pay15_at I h26 h35 h38 h41 h49]
  rfl

end

section
variable {v50 : FVec Ideal S1536x64 .f32} {v80 v83 : FVec Ideal S1536x5 .f32} {v87 : FVec Ideal S1536x4x128 .f32}
  (h50 : ∀ j, v50 j = Spec.rot I (j 0) (j 1)) (h80 : ∀ j, v80 j = Spec.scale I (j 0) (j 1))
  (h83 : ∀ j, v83 j = Spec.invOf (Spec.vv I (j 0) (j 1)))
  (h87 : ∀ j, v87 j = Spec.dcg I (j 0) (row (j 1) (j 2)) * Spec.invOf (Spec.vv I (j 0) ⟨(j 1).val, Nat.lt_of_lt_of_le (j 1).isLt (by decide)⟩))

/-- A latent row, a rotary row, among all. -/
abbrev top (l : Fin 512) : Fin 576 := ⟨l.val, by omega⟩
/-- A rotary row among all rows. -/
abbrev bot (l : Fin 64) : Fin 576 := ⟨512 + l.val, by omega⟩

include h87 in
/-- The codes of the latent. -/
theorem pay17_at (j : S1536x512.Idx) : k0_pay17 v87 j = Spec.code I (j 0) (top (j 1)) := by
  unfold k0_pay17
  pointwise
  rw [h87]
  have h1 : (j 1).val < 512 := (j 1).isLt
  have e : row ⟨(j 1).val / 128, by omega⟩ ⟨(j 1).val % 128, by omega⟩ = j 1 :=
    Fin.ext (by show 128 * ((j 1).val / 128) + (j 1).val % 128 = (j 1).val; omega)
  unfold Spec.code Spec.grad
  rw [dif_pos h1]
  show min _ (max _ (Spec.dcg I (j 0) (row ⟨(j 1).val / 128, _⟩ ⟨(j 1).val % 128, _⟩) * _)) = _
  rw [e]
  rfl

include h50 h83 in
/-- The codes of the rotary group. -/
theorem pay18_at (j : S1536x64.Idx) : k0_pay18 v50 v83 j = Spec.code I (j 0) (bot (j 1)) := by
  unfold k0_pay18
  pointwise
  rw [h50, h83]
  have h1 : (j 1).val < 64 := (j 1).isLt
  have e1 : (⟨512 + (j 1).val - 512, by omega⟩ : Fin 64) = j 1 := Fin.ext (by show 512 + (j 1).val - 512 = (j 1).val; omega)
  have e2 : (⟨(512 + (j 1).val) / 128, by omega⟩ : Fin 5) = 4 := Fin.ext (by show (512 + (j 1).val) / 128 = 4; omega)
  unfold Spec.code Spec.grad
  rw [dif_neg (by show ¬ 512 + (j 1).val < 512; omega), e1, e2]
  rfl

include h50 h83 h87 in
/-- The codes, laid out one row a channel. -/
theorem pay21_at (j : S2x576x768.Idx) : k0_pay21 v50 v83 v87 j = Spec.code I ⟨768 * (j 0).val + (j 2).val, by
    have h0 : (j 0).val < 2 := (j 0).isLt; have h2 : (j 2).val < 768 := (j 2).isLt; omega⟩ (j 1) := by
  unfold k0_pay21
  pointwise
  simp only [pay17_at I h87, pay18_at I h50 h83]
  have e : (⟨(j 0).val * 768 + (j 2).val, by
    have h0 : (j 0).val < 2 := (j 0).isLt; have h2 : (j 2).val < 768 := (j 2).isLt; omega⟩ : Fin 1536) = ⟨768 * (j 0).val + (j 2).val, by
    have h0 : (j 0).val < 2 := (j 0).isLt; have h2 : (j 2).val < 768 := (j 2).isLt; omega⟩ :=
    Fin.ext (by show (j 0).val * 768 + (j 2).val = 768 * (j 0).val + (j 2).val; omega)
  split
  · exact congrArg (fun n => Spec.code I n (j 1)) e
  · next h =>
    have h1 : (j 1).val < 576 := (j 1).isLt
    exact congrArg₂ (Spec.code I) e (Fin.ext (by show 512 + ((j 1).val - 512) = (j 1).val; omega))

include h80 in
/-- The scales, laid out one row a group. -/
theorem pay22_at (j : S5x2x768.Idx) : k0_pay22 v80 j = Spec.scale I ⟨768 * (j 1).val + (j 2).val, by
    have h0 : (j 1).val < 2 := (j 1).isLt; have h2 : (j 2).val < 768 := (j 2).isLt; omega⟩ (j 0) := by
  unfold k0_pay22
  pointwise
  rw [h80]
  exact congrArg (fun n => Spec.scale I n (j 0)) (Fin.ext (by show (j 1).val * 768 + (j 2).val = 768 * (j 1).val + (j 2).val; omega))

include h50 h80 h83 h87 in
/-- The gradient of the input, as the sum of the latent's product and the rotary group's. -/
theorem pay19_at {v11 : FVec Ideal S6144x512 .bf16} {v12 : FVec Ideal S6144x64 .bf16} (h11 : ∀ j, v11 j = Spec.wq I (top (j 1)) (j 0))
    (h12 : ∀ j, v12 j = Spec.wq I (bot (j 1)) (j 0)) (j : S1536x6144.Idx) :
    k0_pay19 v11 v12 v50 v80 v83 v87 j = Spec.dx I (j 0) (j 1) := by
  unfold k0_pay19
  pointwise
  simp only [pay17_at I h87, pay18_at I h50 h83, h11, h12, h80]
  refine Eq.trans ?_ (Fin.sum_univ_add (a := 512) (b := 64) (fun r : Fin (512 + 64) => Spec.gq I (j 0) r * Spec.wq I r (j 1))).symm
  refine congrArg₂ (· + ·) (Finset.sum_congr rfl fun x _ => rfl) (Finset.sum_congr rfl fun x _ => ?_)
  have h1 : x.val < 64 := x.isLt
  have e2 : (⟨(512 + x.val) / 128, by omega⟩ : Fin 5) = 4 := Fin.ext (by show (512 + x.val) / 128 = 4; omega)
  show _ = Spec.code I (j 0) (bot x) * Spec.scale I (j 0) ⟨(512 + x.val) / 128, _⟩ * Spec.wq I (bot x) (j 1)
  rw [e2]
  rfl

end

end Cert.ReferenceIdeal.Hand
end
-- ==== Proof.RefBlocks.lean ====
/- What the reference's region is handed, in the terms of the token-level statement. -/
module
public import proofs.«01_k».proof.Proof.RefPays
public import proofs.«01_k».proof.Proof.Args
public import proofs.«01_k».proof.Proof.Gen.ReferenceIdeal.Frame
public import Idealize.ShloMosaic.Lib.Claim
public import Idealize.ShloMosaic.Lib.Pipeline.ValueKit
@[expose] public section
set_option maxRecDepth 16384
noncomputable section
namespace Cert.ReferenceIdeal.Hand
open Cert.ReferenceIdeal Cert.ReferenceIdeal.Gen
open Idealize.ShloMosaic Idealize.ShloMosaic.TcCoe Idealize.ShloMosaic.Tactic

variable (m : (ℓ : Loc nD τ sig) → Buf (Elt Ideal) ℓ)

/-- The arguments device `c` is launched with. -/
def inp (c : Dev nD) : Spec.Inp :=
  Spec.inpOf (fun a b d => m ((c : Thread nD τ).loc main_arg0) (ix3 a b d)) (fun a b d => m ((c : Thread nD τ).loc main_arg1) (ix3 a b d))
    (fun a b => m ((c : Thread nD τ).loc main_arg2) (ix2 a b)) (fun a b => m ((c : Thread nD τ).loc main_arg3) (ix2 a b))
    (fun a => m ((c : Thread nD τ).loc main_arg4) (ix1 a)) (fun a b => m ((c : Thread nD τ).loc main_arg5) (ix2 a b))
    (fun a b d => m ((c : Thread nD τ).loc main_arg6) (ix3 a b d)) (fun a b d => m ((c : Thread nD τ).loc main_arg7) (ix3 a b d))

/-- Minus is zero minus. -/
theorem neg_eq_zero_sub' (x : EReal) : -x = 0 - x := by rw [sub_eq_add_neg, zero_add]

/-! ## What the region finds in the arrays of its windows -/

/-- The tokens that the call is given. -/
theorem V_v45 (c : Dev nD) (j : S1536x6144.Idx) : V (F := Ideal) m c main_v45 j = (inp m c).x (j 0) (j 1) := by
  entry_read
  unfold inp Spec.inpOf
  pointwise

/-- The tokens' scales that the call is given, one an entry. -/
theorem V_v3 (c : Dev nD) (j : S1536x6144.Idx) : V (F := Ideal) m c main_v3 j = (inp m c).xs (j 0) (b48 (j 1)) := by
  entry_read
  unfold inp Spec.inpOf
  pointwise

/-- The weights' scales that the call is given, one an entry. -/
theorem V_v8 (c : Dev nD) (j : S6144x576.Idx) : V (F := Ideal) m c main_v8 j = (inp m c).ws (g5 (j 1)) (b48 (j 0)) := by
  entry_read
  unfold inp Spec.inpOf
  pointwise

/-- The gain that the call is given. -/
theorem V_v46 (c : Dev nD) (j : S1x512.Idx) : V (F := Ideal) m c main_v46 j = (inp m c).gain (j 1) := by
  entry_read
  unfold inp Spec.inpOf
  pointwise

/-- The gradient of the latent's output that the call is given. -/
theorem V_v47 (c : Dev nD) (j : S1536x512.Idx) : V (F := Ideal) m c main_v47 j = (inp m c).dc (j 0) (j 1) := by
  entry_read
  unfold inp Spec.inpOf
  pointwise

/-- The rotary backward pass of an even row, -/
theorem rot_even (I : Spec.Inp) (n : Fin 1536) (r : Fin 64) (h : r.val % 2 = 0) (de d0 p : EReal)
    (he : de = I.dk n ⟨2 * (r.val / 2), by omega⟩) (ho : d0 = I.dk n ⟨2 * (r.val / 2) + 1, by omega⟩)
    (hp : p = Spec.ang I n ⟨r.val / 2, by omega⟩) : de * Ideal.cos p + d0 * Ideal.sin p = Spec.rot I n r := by
  subst he ho hp
  unfold Spec.rot Spec.rotE
  rw [if_pos h]

/-- and of an odd one. -/
theorem rot_odd (I : Spec.Inp) (n : Fin 1536) (r : Fin 64) (h : ¬ r.val % 2 = 0) (de d0 p : EReal)
    (he : de = I.dk n ⟨2 * (r.val / 2), by omega⟩) (ho : d0 = I.dk n ⟨2 * (r.val / 2) + 1, by omega⟩)
    (hp : p = Spec.ang I n ⟨r.val / 2, by omega⟩) : -de * Ideal.sin p + d0 * Ideal.cos p = Spec.rot I n r := by
  subst he ho hp
  unfold Spec.rot Spec.rotO
  rw [if_neg h, neg_eq_zero_sub']

/-- The even rotary rows of the argument. -/
theorem dk_even (c : Dev nD) (n : Fin 1536) (r : Fin 64) (k : Fin 64) (hk : k.val = r.val / 2 * 2) :
    m ((c : Thread nD τ).loc main_arg7) (ix3 (Spec.sq n) (Spec.pl n) k) = (inp m c).dk n ⟨2 * (r.val / 2), by omega⟩ := by
  unfold inp Spec.inpOf
  exact congrArg (fun k => m ((c : Thread nD τ).loc main_arg7) (ix3 (Spec.sq n) (Spec.pl n) k)) (Fin.ext (by show k.val = 2 * (r.val / 2); omega))

/-- The odd rotary rows of the argument. -/
theorem dk_odd (c : Dev nD) (n : Fin 1536) (r : Fin 64) (k : Fin 64) (hk : k.val = r.val / 2 * 2 + 1) :
    m ((c : Thread nD τ).loc main_arg7) (ix3 (Spec.sq n) (Spec.pl n) k) = (inp m c).dk n ⟨2 * (r.val / 2) + 1, by omega⟩ := by
  unfold inp Spec.inpOf
  exact congrArg (fun k => m ((c : Thread nD τ).loc main_arg7) (ix3 (Spec.sq n) (Spec.pl n) k)) (Fin.ext (by show k.val = 2 * (r.val / 2) + 1; omega))

/-- The rotary angle that the host computes. -/
theorem ang_at (c : Dev nD) (n : Fin 1536) (i : Fin 32) :
    FloatOps.sitofp (F := Ideal) .f32 (m ((c : Thread nD τ).loc main_arg5) (ix2 (Spec.sq n) (Spec.pl n)))
      * Ideal.div 1 (Ideal.pow (Ideal.ofBits .f32 0x461C4000#32)
        (Ideal.div (Ideal.ofBits .f32 0x40000000#32 * FloatOps.sitofp (F := Ideal) .f32 (BitVec.ofNat 32 i.val)) (Ideal.ofBits .f32 0x42800000#32)))
      = Spec.ang (inp m c) n i := by
  unfold Spec.ang inp Spec.inpOf
  rw [mul_comm (Ideal.ofBits .f32 0x40000000#32)]

/-- The rotary backward pass is prepared outside the region. -/
theorem V_v44 (c : Dev nD) (j : S1536x64.Idx) : V (F := Ideal) m c main_v44 j = Spec.rot (inp m c) (j 0) (j 1) := by
  entry_read
  pointwise
  have h1 : (j 1).val < 64 := (j 1).isLt
  by_cases h : (j 1).val % 2 = 0
  · rw [dif_pos (show (j 1).val % 2 < 1 by omega)]
    exact rot_even (inp m c) (j 0) (j 1) h _ _ _ (dk_even m c (j 0) (j 1) _ rfl) (dk_odd m c (j 0) (j 1) _ rfl) (ang_at m c (j 0) ⟨(j 1).val / 2, by omega⟩)
  · rw [dif_neg (show ¬ (j 1).val % 2 < 1 by omega)]
    exact rot_odd (inp m c) (j 0) (j 1) h _ _ _ (dk_even m c (j 0) (j 1) _ rfl) (dk_odd m c (j 0) (j 1) _ rfl) (ang_at m c (j 0) ⟨(j 1).val / 2, by omega⟩)

/-- The call has one point, and each window starts at zero. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- The tokens as the body is given them. -/
theorem blk0 (c : Dev nD) (t : Fin cfg0.N) (j : S1536x6144.Idx) : iblk m c 0 t j = (inp m c).x (j 0) (j 1) := by
  refine (V_v45 m c _).trans (congrArg₂ _ (Fin.ext ?_) (Fin.ext ?_))
  · show ((((cfg0.win 0).blk t).view.emb j 0 : Nat)) = (j 0).val
    blk_simp [idx t]
  · show ((((cfg0.win 0).blk t).view.emb j 1 : Nat)) = (j 1).val
    blk_simp [idx t]

/-- The tokens' scales as the body is given them. -/
theorem blk1 (c : Dev nD) (t : Fin cfg0.N) (j : S1536x6144.Idx) : iblk m c 1 t j = (inp m c).xs (j 0) (b48 (j 1)) := by
  refine (V_v3 m c _).trans (congrArg₂ _ (Fin.ext ?_) (Fin.ext ?_))
  · show ((((cfg0.win 1).blk t).view.emb j 0 : Nat)) = (j 0).val
    blk_simp [idx t]
  · show ((((cfg0.win 1).blk t).view.emb j 1 : Nat) / 128) = (j 1).val / 128
    blk_simp [idx t]

/-- The gradient of the latent's output as the body is given it. -/
theorem blk5 (c : Dev nD) (t : Fin cfg0.N) (j : S1536x512.Idx) : iblk m c 5 t j = (inp m c).dc (j 0) (j 1) := by
  refine (V_v47 m c _).trans (congrArg₂ _ (Fin.ext ?_) (Fin.ext ?_))
  · show ((((cfg0.win 5).blk t).view.emb j 0 : Nat)) = (j 0).val
    blk_simp [idx t]
  · show ((((cfg0.win 5).blk t).view.emb j 1 : Nat)) = (j 1).val
    blk_simp [idx t]

/-- The rotary backward pass as the body is given it. -/
theorem blk6 (c : Dev nD) (t : Fin cfg0.N) (j : S1536x64.Idx) : iblk m c 6 t j = Spec.rot (inp m c) (j 0) (j 1) := by
  refine (V_v44 m c _).trans (congrArg₂ _ (Fin.ext ?_) (Fin.ext ?_))
  · show ((((cfg0.win 6).blk t).view.emb j 0 : Nat)) = (j 0).val
    blk_simp [idx t]
  · show ((((cfg0.win 6).blk t).view.emb j 1 : Nat)) = (j 1).val
    blk_simp [idx t]

/-- The weights as the body is given them. -/
theorem blk2 (c : Dev nD) (t : Fin cfg0.N) (j : S6144x576.Idx) : iblk m c 2 t j = (inp m c).w (j 1) (j 0) := by
  unfold iblk
  refine (congrFun (V_main_arg2 m c) _).trans ?_
  unfold inp Spec.inpOf
  refine congrArg _ ?_
  blk_ext [idx t]

/-- The weights' scales as the body is given them. -/
theorem blk3 (c : Dev nD) (t : Fin cfg0.N) (j : S6144x576.Idx) : iblk m c 3 t j = (inp m c).ws (g5 (j 1)) (b48 (j 0)) := by
  refine (V_v8 m c _).trans (congrArg₂ _ (Fin.ext ?_) (Fin.ext ?_))
  · show (((cfg0.win 3).blk t).view.emb j 1 : Nat) / 128 = (j 1).val / 128
    blk_simp [idx t]
  · show (((cfg0.win 3).blk t).view.emb j 0 : Nat) / 128 = (j 0).val / 128
    blk_simp [idx t]

/-- The gain as the body is given it. -/
theorem blk4 (c : Dev nD) (t : Fin cfg0.N) (j : S1x512.Idx) : iblk m c 4 t j = (inp m c).gain (j 1) := by
  refine (V_v46 m c _).trans (congrArg _ (Fin.ext ?_))
  show (((cfg0.win 4).blk t).view.emb j 1 : Nat) = (j 1).val
  blk_simp [idx t]

/-- The region is handed the arguments. -/
theorem at_point (c : Dev nD) (t : Fin cfg0.N) :
    At (inp m c) (iblk m c 0 t) (iblk m c 1 t) (iblk m c 2 t) (iblk m c 3 t) (iblk m c 4 t) (iblk m c 5 t) (iblk m c 6 t) :=
  ⟨blk0 m c t, blk1 m c t, blk2 m c t, blk3 m c t, blk4 m c t, blk5 m c t, blk6 m c t⟩

end Cert.ReferenceIdeal.Hand
end
-- ==== Proof.RefRun.lean ====
/- The reference's run with its result arrays named, and its arguments unchanged. -/
module
public import proofs.«01_k».proof.Proof.Gen.ReferenceIdeal.Frame
public import Idealize.ShloMosaic.Lib.Pipeline.Value
@[expose] public section
noncomputable section
namespace Cert.ReferenceIdeal.Hand
open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v48_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v48_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v48_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v48_3) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED (`(dats m 0 c).arrAt w N`), the arguments unchanged. -/
theorem run_blocks : θ_run defs (onTc (τ := τ) (main (F := F))) ⟨m, fun _ => 0, ρ⟩ fun r => ∀ c : Dev nD,
      r.2.mem ((c : Thread nD τ).loc main_v48_0) = (dats m 0 c).arrAt 7 cfg0.N
      ∧ r.2.mem ((c : Thread nD τ).loc main_v48_1) = (dats m 0 c).arrAt 8 cfg0.N
      ∧ r.2.mem ((c : Thread nD τ).loc main_v48_2) = (dats m 0 c).arrAt 9 cfg0.N
      ∧ r.2.mem ((c : Thread nD τ).loc main_v48_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Hand
end
-- ==== Proof.RefValue.lean ====
/- The reference's four results after any run, over the inputs alone. -/
module
public import proofs.«01_k».proof.Proof.RefBlocks
public import proofs.«01_k».proof.Proof.RefRun
@[expose] public section
set_option maxRecDepth 16384
noncomputable section
namespace Cert.ReferenceIdeal.Hand
open Cert.ReferenceIdeal Cert.ReferenceIdeal.Gen
open Idealize.ShloMosaic Idealize.ShloMosaic.TcCoe Idealize.ShloMosaic.Tactic
open Idealize.SL.Sem

/-- Token `b` of sequence `a`. -/
abbrev posIx (a : Fin 2) (b : Fin 768) : Fin 1536 := ⟨768 * a.val + b.val, by omega⟩

/-! ## The four results -/

/-- The gradient with respect to the input, -/
def R0 (I : Spec.Inp) : S1536x6144.Idx → EReal := fun y => Spec.dx I (y 0) (y 1)
/-- the partial sums of the gain's gradient, -/
def R1 (I : Spec.Inp) : S6x2x512.Idx → EReal := fun y => Spec.dgain I (y 0) (y 1) (y 2)
/-- the codes, one row a channel, -/
def R2 (I : Spec.Inp) : S2x576x768.Idx → EReal := fun y => Spec.code I (posIx (y 0) (y 2)) (y 1)
/-- and the scales, one row a group. -/
def R3 (I : Spec.Inp) : S5x2x768.Idx → EReal := fun y => Spec.scale I (posIx (y 1) (y 2)) (y 0)

/-! ## Loads of whole buffers -/

/-- Reading the whole of window 0's block gives the block. -/
theorem ld0 (x : Vec Ideal S1536x6144 .fp8e4m3) : View.ld x r0_0 = x := View.ld_unit_lit _ _ (by decide)
/-- Reading the whole of window 1's block gives the block. -/
theorem ld1 (x : Vec Ideal S1536x6144 .bf16) : View.ld x r0_0 = x := View.ld_unit_lit _ _ (by decide)
/-- Reading the whole of window 2's block gives the block. -/
theorem ld2 (x : Vec Ideal S6144x576 .fp8e4m3) : View.ld x r0_1 = x := View.ld_unit_lit _ _ (by decide)
/-- Reading the whole of window 3's block gives the block. -/
theorem ld3 (x : Vec Ideal S6144x576 .bf16) : View.ld x r0_1 = x := View.ld_unit_lit _ _ (by decide)
/-- Reading the whole of window 4's block gives the block. -/
theorem ld4 (x : Vec Ideal S1x512 .f32) : View.ld x r0_3 = x := View.ld_unit_lit _ _ (by decide)
/-- Reading the whole of window 5's block gives the block. -/
theorem ld5 (x : Vec Ideal S1536x512 .bf16) : View.ld x r0_2 = x := View.ld_unit_lit _ _ (by decide)
/-- Reading the whole of window 6's block gives the block. -/
theorem ld6 (x : Vec Ideal S1536x64 .f32) : View.ld x r0_4 = x := View.ld_unit_lit _ _ (by decide)

section
variable (I : Spec.Inp) {x0 : Vec Ideal S1536x6144 .fp8e4m3} {x1 : Vec Ideal S1536x6144 .bf16} {x2 : Vec Ideal S6144x576 .fp8e4m3}
  {x3 : Vec Ideal S6144x576 .bf16} {x4 : Vec Ideal S1x512 .f32} {x5 : Vec Ideal S1536x512 .bf16} {x6 : Vec Ideal S1536x64 .f32}
  (H : At I x0 x1 x2 x3 x4 x5 x6)
include H

/-! ## What the body stores -/

/-- The reciprocal root mean square, from the arguments. -/
theorem v26_at (j : S1536x1.Idx) : k0_pay23 x0 x1 x2 x3 x4 x5 x6 j = Spec.rstd I (j 0) := by
  unfold k0_pay23
  rw [ld0, ld1, ld2, ld3]
  exact pay6_at I H j

/-- The gradient of the normalised latent, from the arguments. -/
theorem v35_at (j : S1536x512.Idx) : k0_pay24 x0 x1 x2 x3 x4 x5 x6 j = I.dc (j 0) (j 1) * I.gain (j 1) := by
  unfold k0_pay24
  rw [ld5, ld4]
  exact pay8_at I H j

/-- The latent times the squared reciprocal root mean square, from the arguments. -/
theorem v38_at (j : S1536x512.Idx) : k0_pay25 x0 x1 x2 x3 x4 x5 x6 j = Spec.cL I (j 0) (j 1) * (Spec.rstd I (j 0) * Spec.rstd I (j 0)) := by
  unfold k0_pay25
  rw [ld0, ld1, ld2, ld3]
  exact pay9_at I H j

/-- The sum of normalised gradient times latent, from the arguments. -/
theorem v41_at (j : S1536x1.Idx) : k0_pay26 x0 x1 x2 x3 x4 x5 x6 j = ∑ l, I.dc (j 0) l * I.gain l * Spec.cL I (j 0) l := by
  unfold k0_pay26
  rw [ld0, ld1, ld2, ld3, ld4, ld5]
  exact pay10_at I H j

/-- The rotary backward pass, from the arguments. -/
theorem v50_at (j : S1536x64.Idx) : k0_pay27 x0 x1 x2 x3 x4 x5 x6 j = Spec.rot I (j 0) (j 1) := by
  unfold k0_pay27
  rw [ld6]
  exact pay11_at I H j

/-- The scales, from the arguments. -/
theorem v80_at (j : S1536x5.Idx) : k0_pay28 x0 x1 x2 x3 x4 x5 x6 j = Spec.scale I (j 0) (j 1) := by
  unfold k0_pay28
  rw [ld6]
  exact pay14_at I (v26_at I H) (v35_at I H) (v38_at I H) (v41_at I H) H.h6 j

/-- The inverse scales, from the arguments. -/
theorem v83_at (j : S1536x5.Idx) : k0_pay29 x0 x1 x2 x3 x4 x5 x6 j = Spec.invOf (Spec.vv I (j 0) (j 1)) := by
  unfold k0_pay29
  rw [ld6]
  exact pay15_at I (v26_at I H) (v35_at I H) (v38_at I H) (v41_at I H) H.h6 j

/-- The scaled gradient of the latent, from the arguments. -/
theorem v87_at (j : S1536x4x128.Idx) : k0_pay30 x0 x1 x2 x3 x4 x5 x6 j
    = Spec.dcg I (j 0) (row (j 1) (j 2)) * Spec.invOf (Spec.vv I (j 0) ⟨(j 1).val, Nat.lt_of_lt_of_le (j 1).isLt (by decide)⟩) := by
  unfold k0_pay30
  rw [ld6]
  exact pay16_at I (v26_at I H) (v35_at I H) (v38_at I H) (v41_at I H) H.h6 j

/-- What the body stores to the input's gradient is the stated value. -/
theorem out7_at (j : S1536x6144.Idx) : out0_7 x0 x1 x2 x3 x4 x5 x6 j = R0 I j := by
  unfold out0_7
  rw [View.canon_cons_unit_lit _ _ _ (by decide), ld2, ld3]
  exact pay19_at I (v50_at I H) (v80_at I H) (v83_at I H) (v87_at I H) (pay2_at I H) (pay3_at I H) j

/-- What the body stores to the gain's gradient is the stated value. -/
theorem out8_at (j : S6x2x512.Idx) : out0_8 x0 x1 x2 x3 x4 x5 x6 j = R1 I j := by
  unfold out0_8
  rw [View.canon_cons_unit_lit _ _ _ (by decide), ld0, ld1, ld2, ld3, ld5]
  unfold k0_pay20
  pointwise
  exact pay7_at I H _

/-- What the body stores to the codes is the stated value. -/
theorem out9_at (j : S2x576x768.Idx) : out0_9 x0 x1 x2 x3 x4 x5 x6 j = R2 I j := by
  unfold out0_9
  rw [View.canon_cons_unit_lit _ _ _ (by decide)]
  exact pay21_at I (v50_at I H) (v83_at I H) (v87_at I H) j

/-- What the body stores to the scales is the stated value. -/
theorem out10_at (j : S5x2x768.Idx) : out0_10 x0 x1 x2 x3 x4 x5 x6 j = R3 I j := by
  unfold out0_10
  rw [View.canon_cons_unit_lit _ _ _ (by decide)]
  exact pay22_at I (v80_at I H) j

end

variable (m : (ℓ : Loc nD τ sig) → Buf (Elt Ideal) ℓ) (ρ : Dev nD → PrngReg)

/-- The output windows' index maps. -/
theorem idxO : ∀ t : Fin cfg0.N, win0_7.index t = ![0, 0] ∧ win0_8.index t = ![0, 0, 0] ∧ win0_9.index t = ![0, 0, 0] ∧ win0_10.index t = ![0, 0, 0] :=
  (by decide +kernel : ∀ t : Fin grid0.N, _)

/-! ## The result arrays -/

/-- The array of the input's gradient after the call is the stated one. -/
theorem arr7 (c : Dev nD) : (dats m 0 c).arrAt 7 cfg0.N = R0 (inp m c) := by
  refine (dats m 0 c).arrAt_eq_of_covers 7 _ (by decide +kernel) fun t hf y => ?_
  blk_simp
  rw [after0_7]
  refine (out7_at (inp m c) (at_point m c t) y).trans (congrArg (R0 (inp m c)) (funext fun a => Fin.ext ?_))
  match a with
  | ⟨0, _⟩ => show (y 0).val = (((cfg0.win 7).blk t).view.emb y 0 : Nat); blk_simp [idxO t]
  | ⟨1, _⟩ => show (y 1).val = (((cfg0.win 7).blk t).view.emb y 1 : Nat); blk_simp [idxO t]

/-- The array of the gain's gradient after the call is the stated one. -/
theorem arr8 (c : Dev nD) : (dats m 0 c).arrAt 8 cfg0.N = R1 (inp m c) := by
  refine (dats m 0 c).arrAt_eq_of_covers 8 _ (by decide +kernel) fun t hf y => ?_
  blk_simp
  rw [after0_8]
  refine (out8_at (inp m c) (at_point m c t) y).trans (congrArg (R1 (inp m c)) (funext fun a => Fin.ext ?_))
  match a with
  | ⟨0, _⟩ => show (y 0).val = (((cfg0.win 8).blk t).view.emb y 0 : Nat); blk_simp [idxO t]
  | ⟨1, _⟩ => show (y 1).val = (((cfg0.win 8).blk t).view.emb y 1 : Nat); blk_simp [idxO t]
  | ⟨2, _⟩ => show (y 2).val = (((cfg0.win 8).blk t).view.emb y 2 : Nat); blk_simp [idxO t]

/-- The array of the codes after the call is the stated one. -/
theorem arr9 (c : Dev nD) : (dats m 0 c).arrAt 9 cfg0.N = R2 (inp m c) := by
  refine (dats m 0 c).arrAt_eq_of_covers 9 _ (by decide +kernel) fun t hf y => ?_
  blk_simp
  rw [after0_9]
  refine (out9_at (inp m c) (at_point m c t) y).trans (congrArg (R2 (inp m c)) (funext fun a => Fin.ext ?_))
  match a with
  | ⟨0, _⟩ => show (y 0).val = (((cfg0.win 9).blk t).view.emb y 0 : Nat); blk_simp [idxO t]
  | ⟨1, _⟩ => show (y 1).val = (((cfg0.win 9).blk t).view.emb y 1 : Nat); blk_simp [idxO t]
  | ⟨2, _⟩ => show (y 2).val = (((cfg0.win 9).blk t).view.emb y 2 : Nat); blk_simp [idxO t]

/-- The array of the scales after the call is the stated one. -/
theorem arr10 (c : Dev nD) : (dats m 0 c).arrAt 10 cfg0.N = R3 (inp m c) := by
  refine (dats m 0 c).arrAt_eq_of_covers 10 _ (by decide +kernel) fun t hf y => ?_
  blk_simp
  rw [after0_10]
  refine (out10_at (inp m c) (at_point m c t) y).trans (congrArg (R3 (inp m c)) (funext fun a => Fin.ext ?_))
  match a with
  | ⟨0, _⟩ => show (y 0).val = (((cfg0.win 10).blk t).view.emb y 0 : Nat); blk_simp [idxO t]
  | ⟨1, _⟩ => show (y 1).val = (((cfg0.win 10).blk t).view.emb y 1 : Nat); blk_simp [idxO t]
  | ⟨2, _⟩ => show (y 2).val = (((cfg0.win 10).blk t).view.emb y 2 : Nat); blk_simp [idxO t]

/-- THE VALUES: every run of the reference ends with its four results the functions of the inputs above, and the arguments
    unchanged. -/
theorem run_value : θ_run defs (onTc (τ := τ) (main (F := Ideal))) ⟨m, fun _ => 0, ρ⟩ (fun r => ∀ c : Dev nD,
    (r.2.mem ((c.tc : Thread nD τ).loc main_v48_0) = R0 (inp m c)
      ∧ r.2.mem ((c.tc : Thread nD τ).loc main_v48_1) = R1 (inp m c)
      ∧ r.2.mem ((c.tc : Thread nD τ).loc main_v48_2) = R2 (inp m c)
      ∧ r.2.mem ((c.tc : Thread nD τ).loc main_v48_3) = R3 (inp m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) := by
  refine (θ_run defs _ _).mono (fun r h c => ?_) (run_blocks m ρ)
  obtain ⟨h7, h8, h9, h10, hk⟩ := h c
  exact ⟨⟨h7.trans (arr7 m c), h8.trans (arr8 m c), h9.trans (arr9 m c), h10.trans (arr10 m c)⟩, hk⟩

end Cert.ReferenceIdeal.Hand
end
-- ==== Proof.lean ====
module

public import proofs.«01_k».proof.Defs
public import proofs.«01_k».proof.Proof.KernelFrame
public import proofs.«01_k».proof.Proof.Gen.KernelIdeal.Frame
public import proofs.«01_k».proof.Proof.KernelValue
public import proofs.«01_k».proof.Proof.RefValue

@[expose] public section

namespace Cert.Proof

open Idealize.ShloMosaic Idealize.ShloMosaic.TcCoe Idealize.ShloMosaic.Tactic
open Idealize.SL.Sem

/-- The kernel and the reference, from the same arguments, end with equal results: both are the token-level functions of
    those arguments. -/
theorem algebraic : Cert.algebraic_KernelIdeal_ReferenceIdeal (hKernelIdeal := Cert.KernelIdeal.Gen.facts) (hReferenceIdeal := Cert.ReferenceIdeal.Gen.facts) := by
  intro m g m' g' _ hagree
  have e : ∀ c, Cert.ReferenceIdeal.Hand.inp m' c = Cert.KernelIdeal.Hand.inp m c := fun c => by
    obtain ⟨h0, h1, h2, h3, h4, h5, h6, h7⟩ := hagree c
    unfold Cert.ReferenceIdeal.Hand.inp Cert.KernelIdeal.Hand.inp
    rw [h0, h1, h2, h3, h4, h5, h6, h7]
  refine ⟨fun c => Cert.KernelIdeal.Hand.R0 (Cert.KernelIdeal.Hand.inp m c), fun c => Cert.KernelIdeal.Hand.R1 (Cert.KernelIdeal.Hand.inp m c),
    fun c => Cert.KernelIdeal.Hand.R2 (Cert.KernelIdeal.Hand.inp m c), fun c => Cert.KernelIdeal.Hand.R3 (Cert.KernelIdeal.Hand.inp m c),
    (θ_run _ _ _).mono (fun r h c => ?_) (Cert.KernelIdeal.Hand.run_value m g),
    (θ_run _ _ _).mono (fun r h c => ?_) (Cert.ReferenceIdeal.Hand.run_value m' g')⟩
  · obtain ⟨⟨h0, h1, h2, h3⟩, hk⟩ := h c
    exact ⟨h0, h1, h2, h3, hk⟩
  · obtain ⟨⟨h0, h1, h2, h3⟩, hk⟩ := h c
    rw [e c] at h0 h1 h2 h3
    exact ⟨h0, h1, h2, h3, hk⟩

/-- The five claims: each program's run and its arguments kept, the kernel printed unchanged, and the results equal. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  trivial, algebraic⟩

end Cert.Proof

end
